-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_peaks [hPre_clear_peaks : Cert.Pre_clear_peaks.Facts] (m : (ℓ : Loc Cert.KernelIdeal.nD Cert.KernelIdeal.τ Cert.KernelIdeal.sig) → Buf (Elt Ideal) ℓ) : Prop :=
  ∀ c : Dev Cert.KernelIdeal.nD,
    (Cert.Pre_clear_peaks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_peaks [hPre_clear_peaks : Cert.Pre_clear_peaks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_peaks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_clear_peaks [hKernelIdeal : Cert.KernelIdeal.Facts] [hPre_clear_peaks : Cert.Pre_clear_peaks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_peaks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_clear_peaks [hReferenceIdeal : Cert.ReferenceIdeal.Facts] [hPre_clear_peaks : Cert.Pre_clear_peaks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_peaks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_clear_peaks [hKernelIdeal : Cert.KernelIdeal.Facts] [hReferenceIdeal : Cert.ReferenceIdeal.Facts] [hPre_clear_peaks : Cert.Pre_clear_peaks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_peaks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_clear_peaks : Cert.Pre_clear_peaks.Facts),
    quiescent_Kernel (hKernel := hKernel)
    ∧ quiescent_KernelIdeal (hKernelIdeal := hKernelIdeal)
    ∧ quiescent_KernelIdeal_pre_clear_peaks (hKernelIdeal := hKernelIdeal) (hPre_clear_peaks := hPre_clear_peaks)
    ∧ quiescent_ReferenceIdeal (hReferenceIdeal := hReferenceIdeal)
    ∧ quiescent_ReferenceIdeal_pre_clear_peaks (hReferenceIdeal := hReferenceIdeal) (hPre_clear_peaks := hPre_clear_peaks)
    ∧ preserves_Kernel_KernelIdeal
    ∧ algebraic_KernelIdeal_ReferenceIdeal_pre_clear_peaks (hKernelIdeal := hKernelIdeal) (hReferenceIdeal := hReferenceIdeal) (hPre_clear_peaks := hPre_clear_peaks)
-- ==== Pre_clear_peaks.lean ====
abbrev S16x128x8192 : Shape := ⟨3, ![16, 128, 8192]⟩
abbrev S16x256 : Shape := ⟨2, ![16, 256]⟩
abbrev S128x256 : Shape := ⟨2, ![128, 256]⟩
abbrev S128 : Shape := ⟨1, ![128]⟩
abbrev S8192x4097 : Shape := ⟨2, ![8192, 4097]⟩
abbrev S_ : Shape := ⟨0, ![]⟩
abbrev S256x128 : Shape := ⟨2, ![256, 128]⟩
abbrev S16x128 : Shape := ⟨2, ![16, 128]⟩
abbrev S1x128 : Shape := ⟨2, ![1, 128]⟩
abbrev S16x128x1 : Shape := ⟨3, ![16, 128, 1]⟩
abbrev S16x128x4097 : Shape := ⟨3, ![16, 128, 4097]⟩
abbrev S16x128x9 : Shape := ⟨3, ![16, 128, 9]⟩
abbrev S16x128x8 : Shape := ⟨3, ![16, 128, 8]⟩

class Facts : Prop where
  bcast_S_S8192x4097 : S_.BroadcastsInDim S8192x4097 (![] : Fin 0 → Fin S8192x4097.rank)
  transposes_S128x256_S256x128_1_0 : S128x256.Transposes [1, 0] S256x128
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  shapeCasts_S16x128_S16x128x1 : S16x128.ShapeCasts S16x128x1
  bcast_S16x128x1_S16x128x4097_0_1_2 : S16x128x1.BroadcastsInDim S16x128x4097 (![0, 1, 2] : Fin 3 → Fin S16x128x4097.rank)
  sliceFits_S16x128x4097_S16x128x9 : S16x128x4097.Slices (fun _ => 0) S16x128x9
  slices_S16x128x9_S16x128x8_0_0_0 : S16x128x9.Slices ![0, 0, 0] S16x128x8
  slices_S16x128x9_S16x128x8_0_0_1 : S16x128x9.Slices ![0, 0, 1] S16x128x8
  reducesTo_S16x128x8_S_d0_1_2 : S16x128x8.ReducesTo [0, 1, 2] S_
  h_S_ : 0 < S_.numel
  dot_S16x256_S256x128_S16x128_1_0_0_1_n_n_wf : DotDims.WF S16x256 S256x128 S16x128 [1] [0] [0] [1] [] []
  dot_S16x128x8192_S8192x4097_S16x128x4097_2_0_01_1_n_n_wf : DotDims.WF S16x128x8192 S8192x4097 S16x128x4097 [2] [0] [0, 1] [1] [] []

variable [Facts]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128x8192_S8192x4097_S16x128x4097_2_0_01_1_n_n : DotDims S16x128x8192 S8192x4097 S16x128x4097 where
  lhsContracting := [2]
  rhsContracting := [0]
  lhsNonContracting := [0, 1]
  rhsNonContracting := [1]
  lhsBatch := []
  rhsBatch := []
  wf := dot_S16x128x8192_S8192x4097_S16x128x4097_2_0_01_1_n_n_wf
def fn_part1 {F : FTy → Type} [FloatOps F] (main_arg0 : FVec F S16x128x8192 .f32) (main_v12 : FVec F S8192x4097 .f32) (main_v13 : FVec F S8192x4097 .f32) (main_v19 : FVec F S16x128 .f32) : IVec S_ 1 :=
  let main_cst_2 : FVec F S_ .f32 := constant S_ .f32 0x3F800000#32
  let main_v20 : FVec F S16x128 .f32 := broadcastInDim S16x128 ![] bcast_S_S16x128 main_cst_2
  let main_v21 : FVec F S16x128 .f32 := addf main_v20 main_v19
  let main_v22 : FVec F S16x128x1 .f32 := shapeCast S16x128x1 main_v21 shapeCasts_S16x128_S16x128x1
  let main_v23 : FVec F S16x128x4097 .f32 := (fun l r => Host.dotGeneral dot_S16x128x8192_S8192x4097_S16x128x4097_2_0_01_1_n_n none l r) main_arg0 main_v12
  let main_v24 : FVec F S16x128x4097 .f32 := broadcastInDim S16x128x4097 ![0, 1, 2] bcast_S16x128x1_S16x128x4097_0_1_2 main_v22
  let main_v25 : FVec F S16x128x4097 .f32 := mulf main_v24 main_v23
  let main_v26 : FVec F S16x128x4097 .f32 := (fun l r => Host.dotGeneral dot_S16x128x8192_S8192x4097_S16x128x4097_2_0_01_1_n_n none l r) main_arg0 main_v13
  let main_v27 : FVec F S16x128x4097 .f32 := broadcastInDim S16x128x4097 ![0, 1, 2] bcast_S16x128x1_S16x128x4097_0_1_2 main_v22
  let main_v28 : FVec F S16x128x4097 .f32 := mulf main_v27 main_v26
  let main_v29 : FVec F S16x128x4097 .f32 := mulf main_v25 main_v25
  let main_v30 : FVec F S16x128x4097 .f32 := mulf main_v28 main_v28
  let main_v31 : FVec F S16x128x4097 .f32 := addf main_v29 main_v30
  let main_values : FVec F S16x128x9 .f32 := (fun x => (Host.topK S16x128x9 2 (FloatOps.cmpfTotal .gt) x sliceFits_S16x128x4097_S16x128x9).1) main_v31
  let main_indices : IVec S16x128x9 32 := (fun x => (Host.topK S16x128x9 2 (FloatOps.cmpfTotal .gt) x sliceFits_S16x128x4097_S16x128x9).2) main_v31
  let main_v32 : FVec F S16x128x8 .f32 := (extractStridedSlice S16x128x8 ![0, 0, 0] · slices_S16x128x9_S16x128x8_0_0_0) main_values
  let main_v33 : FVec F S16x128x8 .f32 := (extractStridedSlice S16x128x8 ![0, 0, 1] · slices_S16x128x9_S16x128x8_0_0_1) main_values
  let main_v34 : IVec S16x128x8 1 := cmpf .ogt main_v32 main_v33
  let main_c_3 : IVec S_ 1 := constantI S_ 1 1#1
  let main_v35 : IVec S_ 1 := (fun x v => Host.reduce IntOp.andi x v reducesTo_S16x128x8_S_d0_1_2 h_S_) main_v34 main_c_3
  main_v35

def fn {F : FTy → Type} [FloatOps F] (main_arg0 : FVec F S16x128x8192 .f32) (main_arg1 : FVec F S16x256 .f32) (main_arg2 : FVec F S128x256 .f32) (main_arg3 : FVec F S128 .f32) : IVec S_ 1 :=
  let main_v0 : IVec S8192x4097 32 := iotaInDim S8192x4097 32 0
  let main_v1 : IVec S8192x4097 32 := iotaInDim S8192x4097 32 1
  let main_cst : FVec F S_ .f32 := constant S_ .f32 0xBF800000#32
  let main_v2 : FVec F S_ .f32 := Host.acos main_cst
  let main_cst_0 : FVec F S_ .f32 := constant S_ .f32 0x40000000#32
  let main_v3 : FVec F S_ .f32 := mulf main_cst_0 main_v2
  let main_v4 : IVec S8192x4097 32 := muli main_v0 main_v1
  let main_c : IVec S_ 32 := constantI S_ 32 8192#32
  let main_v5 : IVec S8192x4097 32 := broadcastInDim S8192x4097 ![] bcast_S_S8192x4097 main_c
  let main_v6 : IVec S8192x4097 32 := Host.remsi main_v4 main_v5
  let main_v7 : FVec F S8192x4097 .f32 := sitofp .f32 main_v6
  let main_v8 : FVec F S8192x4097 .f32 := broadcastInDim S8192x4097 ![] bcast_S_S8192x4097 main_v3
  let main_v9 : FVec F S8192x4097 .f32 := mulf main_v8 main_v7
  let main_cst_1 : FVec F S_ .f32 := constant S_ .f32 0x46000000#32
  let main_v10 : FVec F S8192x4097 .f32 := broadcastInDim S8192x4097 ![] bcast_S_S8192x4097 main_cst_1
  let main_v11 : FVec F S8192x4097 .f32 := Host.divf main_v9 main_v10
  let main_v12 : FVec F S8192x4097 .f32 := Host.cos main_v11
  let main_v13 : FVec F S8192x4097 .f32 := Host.sin main_v11
  let main_v14 : FVec F S256x128 .f32 := (transpose S256x128 [1, 0] · transposes_S128x256_S256x128_1_0) main_arg2
  let main_v15 : FVec F S16x128 .f32 := (fun l r => Host.dotGeneral dot_S16x256_S256x128_S16x128_1_0_0_1_n_n none l r) main_arg1 main_v14
  let main_v16 : FVec F S1x128 .f32 := broadcastInDim S1x128 ![1] bcast_S128_S1x128_1 main_arg3
  let main_v17 : FVec F S16x128 .f32 := broadcastInDim S16x128 ![0, 1] bcast_S1x128_S16x128_0_1 main_v16
  let main_v18 : FVec F S16x128 .f32 := addf main_v15 main_v17
  let main_v19 : FVec F S16x128 .f32 := Host.tanh main_v18
  fn_part1 (F := F) main_arg0 main_v12 main_v13 main_v19
-- ==== Kernel.lean ====
abbrev S16x128x8192 : Shape := ⟨3, ![16, 128, 8192]⟩
abbrev S16x256 : Shape := ⟨2, ![16, 256]⟩
abbrev S128x256 : Shape := ⟨2, ![128, 256]⟩
abbrev S128 : Shape := ⟨1, ![128]⟩
abbrev S2x1x64 : Shape := ⟨3, ![2, 1, 64]⟩
abbrev S16x1x256 : Shape := ⟨3, ![16, 1, 256]⟩
abbrev S_ : Shape := ⟨0, ![]⟩
abbrev S64x64 : Shape := ⟨2, ![64, 64]⟩
abbrev S128x64 : Shape := ⟨2, ![128, 64]⟩
abbrev S128x128 : Shape := ⟨2, ![128, 128]⟩
abbrev S64x128 : Shape := ⟨2, ![64, 128]⟩
abbrev S1x64x8192 : Shape := ⟨3, ![1, 64, 8192]⟩
abbrev S1x1x256 : Shape := ⟨3, ![1, 1, 256]⟩
abbrev S64x256 : Shape := ⟨2, ![64, 256]⟩
abbrev S1x1x64 : Shape := ⟨3, ![1, 1, 64]⟩
abbrev S1x256 : Shape := ⟨2, ![1, 256]⟩
abbrev S1x64 : Shape := ⟨2, ![1, 64]⟩
abbrev S64x8192 : Shape := ⟨2, ![64, 8192]⟩
abbrev S64x1 : Shape := ⟨2, ![64, 1]⟩
abbrev S64x64x128 : Shape := ⟨3, ![64, 64, 128]⟩
abbrev S64x128x64 : Shape := ⟨3, ![64, 128, 64]⟩
abbrev S8192x64 : Shape := ⟨2, ![8192, 64]⟩
abbrev S8192x128 : Shape := ⟨2, ![8192, 128]⟩
abbrev S64x128x128 : Shape := ⟨3, ![64, 128, 128]⟩
abbrev S1x128x128 : Shape := ⟨3, ![1, 128, 128]⟩
abbrev S4096x128 : Shape := ⟨2, ![4096, 128]⟩
abbrev S64x64x64 : Shape := ⟨3, ![64, 64, 64]⟩
abbrev S1x128x1 : Shape := ⟨3, ![1, 128, 1]⟩
abbrev S1x128 : Shape := ⟨2, ![1, 128]⟩
abbrev S64 : Shape := ⟨1, ![64]⟩
abbrev S64x1x1 : Shape := ⟨3, ![64, 1, 1]⟩
abbrev S1x64x128 : Shape := ⟨3, ![1, 64, 128]⟩

abbrev nBuf : Space → Nat
  | .hbm => 68
  | .vmem => 20
  | .smem => 0
  | _ => 0

abbrev bufTy : (tb : Table) → Fin (tcTables nBuf tb) → BufTy
  | .hbm, ⟨0, _⟩ => ⟨S16x128x8192, .f32⟩
  | .hbm, ⟨1, _⟩ => ⟨S16x256, .f32⟩
  | .hbm, ⟨2, _⟩ => ⟨S128x256, .f32⟩
  | .hbm, ⟨3, _⟩ => ⟨S128, .f32⟩
  | .hbm, ⟨4, _⟩ => ⟨S2x1x64, .f32⟩
  | .hbm, ⟨5, _⟩ => ⟨S16x1x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64x64, .i32⟩
  | .hbm, ⟨11, _⟩ => ⟨S64x64, .i32⟩
  | .hbm, ⟨12, _⟩ => ⟨S64x64, .i32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S_, .f32⟩
  | .hbm, ⟨21, _⟩ => ⟨S128x64, .i32⟩
  | .hbm, ⟨22, _⟩ => ⟨S128x64, .i32⟩
  | .hbm, ⟨23, _⟩ => ⟨S128x64, .i32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S_, .f32⟩
  | .hbm, ⟨28, _⟩ => ⟨S128x64, .f32⟩
  | .hbm, ⟨29, _⟩ => ⟨S128x64, .f32⟩
  | .hbm, ⟨30, _⟩ => ⟨S_, .f32⟩
  | .hbm, ⟨31, _⟩ => ⟨S_, .f32⟩
  | .hbm, ⟨32, _⟩ => ⟨S128x128, .i32⟩
  | .hbm, ⟨33, _⟩ => ⟨S128x128, .i32⟩
  | .hbm, ⟨34, _⟩ => ⟨S128x128, .i32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S_, .f32⟩
  | .hbm, ⟨43, _⟩ => ⟨S64x128, .i32⟩
  | .hbm, ⟨44, _⟩ => ⟨S64x128, .i32⟩
  | .hbm, ⟨45, _⟩ => ⟨S64x128, .i32⟩
  | .hbm, ⟨46, _⟩ => ⟨S64x128, .f32⟩
  | .hbm, ⟨47, _⟩ => ⟨S64x128, .f32⟩
  | .hbm, ⟨48, _⟩ => ⟨S64x128, .f32⟩
  | .hbm, ⟨49, _⟩ => ⟨S_, .f32⟩
  | .hbm, ⟨50, _⟩ => ⟨S64x128, .f32⟩
  | .hbm, ⟨51, _⟩ => ⟨S64x128, .f32⟩
  | .hbm, ⟨52, _⟩ => ⟨S64x64, .f32⟩
  | .hbm, ⟨53, _⟩ => ⟨S64x64, .f32⟩
  | .hbm, ⟨54, _⟩ => ⟨S128x64, .f32⟩
  | .hbm, ⟨55, _⟩ => ⟨S128x64, .f32⟩
  | .hbm, ⟨56, _⟩ => ⟨S128x128, .f32⟩
  | .hbm, ⟨57, _⟩ => ⟨S128x128, .f32⟩
  | .hbm, ⟨58, _⟩ => ⟨S64x128, .f32⟩
  | .hbm, ⟨59, _⟩ => ⟨S128x128, .f32⟩
  | .hbm, ⟨60, _⟩ => ⟨S128x64, .f32⟩
  | .hbm, ⟨61, _⟩ => ⟨S128x128, .f32⟩
  | .hbm, ⟨62, _⟩ => ⟨S128x64, .f32⟩
  | .hbm, ⟨63, _⟩ => ⟨S128x64, .f32⟩
  | .hbm, ⟨64, _⟩ => ⟨S128x128, .f32⟩
  | .hbm, ⟨65, _⟩ => ⟨S64x128, .f32⟩
  | .hbm, ⟨66, _⟩ => ⟨S64x128, .f32⟩
  | .hbm, ⟨67, _⟩ => ⟨S16x128x8192, .f32⟩
  | .local _ .vmem, ⟨0, _⟩ => ⟨S1x64x8192, .f32⟩
  | .local _ .vmem, ⟨1, _⟩ => ⟨S1x64x8192, .f32⟩
  | .local _ .vmem, ⟨2, _⟩ => ⟨S1x1x256, .f32⟩
  | .local _ .vmem, ⟨3, _⟩ => ⟨S1x1x256, .f32⟩
  | .local _ .vmem, ⟨4, _⟩ => ⟨S64x256, .f32⟩
  | .local _ .vmem, ⟨5, _⟩ => ⟨S64x256, .f32⟩
  | .local _ .vmem, ⟨6, _⟩ => ⟨S1x1x64, .f32⟩
  | .local _ .vmem, ⟨7, _⟩ => ⟨S1x1x64, .f32⟩
  | .local _ .vmem, ⟨8, _⟩ => ⟨S128x128, .f32⟩
  | .local _ .vmem, ⟨9, _⟩ => ⟨S128x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S64x64, .f32⟩
  | .local _ .vmem, ⟨17, _⟩ => ⟨S64x64, .f32⟩
  | .local _ .vmem, ⟨18, _⟩ => ⟨S1x64x8192, .f32⟩
  | .local _ .vmem, ⟨19, _⟩ => ⟨S1x64x8192, .f32⟩
  | _, _ => ⟨S16x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_cst_0 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_cst_1 : Ref sig .tc := ⟨.hbm, 16, rfl⟩
abbrev main_call0_v10 : Ref sig .tc := ⟨.hbm, 17, rfl⟩
abbrev main_call0_v11 : Ref sig .tc := ⟨.hbm, 18, rfl⟩
abbrev main_call0_cst_2 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_cst_3 : Ref sig .tc := ⟨.hbm, 27, rfl⟩
abbrev main_call0_v19 : Ref sig .tc := ⟨.hbm, 28, rfl⟩
abbrev main_call0_v20 : Ref sig .tc := ⟨.hbm, 29, rfl⟩
abbrev main_call0_cst_4 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_cst_5 : Ref sig .tc := ⟨.hbm, 38, rfl⟩
abbrev main_call0_v28 : Ref sig .tc := ⟨.hbm, 39, rfl⟩
abbrev main_call0_v29 : Ref sig .tc := ⟨.hbm, 40, rfl⟩
abbrev main_call0_cst_6 : Ref sig .tc := ⟨.hbm, 41, rfl⟩
abbrev main_call0_v30 : Ref sig .tc := ⟨.hbm, 42, rfl⟩
abbrev main_call0_v31 : Ref sig .tc := ⟨.hbm, 43, rfl⟩
abbrev main_call0_v32 : Ref sig .tc := ⟨.hbm, 44, rfl⟩
abbrev main_call0_v33 : Ref sig .tc := ⟨.hbm, 45, rfl⟩
abbrev main_call0_v34 : Ref sig .tc := ⟨.hbm, 46, rfl⟩
abbrev main_call0_v35 : Ref sig .tc := ⟨.hbm, 47, rfl⟩
abbrev main_call0_v36 : Ref sig .tc := ⟨.hbm, 48, rfl⟩
abbrev main_call0_cst_7 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_call0_v42 : Ref sig .tc := ⟨.hbm, 55, rfl⟩
abbrev main_call0_v43 : Ref sig .tc := ⟨.hbm, 56, rfl⟩
abbrev main_call0_v44 : Ref sig .tc := ⟨.hbm, 57, rfl⟩
abbrev main_call0_v45 : Ref sig .tc := ⟨.hbm, 58, rfl⟩
abbrev main_call0_v46 : Ref sig .tc := ⟨.hbm, 59, rfl⟩
abbrev main_call0_v47 : Ref sig .tc := ⟨.hbm, 60, rfl⟩
abbrev main_call0_v48 : Ref sig .tc := ⟨.hbm, 61, rfl⟩
abbrev main_call0_v49 : Ref sig .tc := ⟨.hbm, 62, rfl⟩
abbrev main_call0_v50 : Ref sig .tc := ⟨.hbm, 63, rfl⟩
abbrev main_call0_v51 : Ref sig .tc := ⟨.hbm, 64, rfl⟩
abbrev main_call0_v52 : Ref sig .tc := ⟨.hbm, 65, rfl⟩
abbrev main_call0_v53 : Ref sig .tc := ⟨.hbm, 66, rfl⟩
abbrev main_v0 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x64x8192 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S16x128x8192 : Shape := ⟨3, ![16, 128, 8192]⟩
abbrev S16x256 : Shape := ⟨2, ![16, 256]⟩
abbrev S128x256 : Shape := ⟨2, ![128, 256]⟩
abbrev S128 : Shape := ⟨1, ![128]⟩
abbrev S256x128 : Shape := ⟨2, ![256, 128]⟩
abbrev S16x128 : Shape := ⟨2, ![16, 128]⟩
abbrev S1x128 : Shape := ⟨2, ![1, 128]⟩
abbrev S16x128x1 : Shape := ⟨3, ![16, 128, 1]⟩
abbrev S_ : Shape := ⟨0, ![]⟩
abbrev S8192x4097 : Shape := ⟨2, ![8192, 4097]⟩
abbrev S16x128x4097 : Shape := ⟨3, ![16, 128, 4097]⟩
abbrev S16x128x8 : Shape := ⟨3, ![16, 128, 8]⟩
abbrev S16 : Shape := ⟨1, ![16]⟩
abbrev S16x1x1 : Shape := ⟨3, ![16, 1, 1]⟩
abbrev S1x128x1 : Shape := ⟨3, ![1, 128, 1]⟩
abbrev S16x128x8x1 : Shape := ⟨4, ![16, 128, 8, 1]⟩
abbrev S1 : Shape := ⟨1, ![1]⟩
abbrev S1x1x1x1 : Shape := ⟨4, ![1, 1, 1, 1]⟩
abbrev S16x128x8x3 : Shape := ⟨4, ![16, 128, 8, 3]⟩
abbrev S4097 : Shape := ⟨1, ![4097]⟩
abbrev S1x1x4097 : Shape := ⟨3, ![1, 1, 4097]⟩

abbrev nBuf : Space → Nat
  | .hbm => 196
  | .vmem => 0
  | .smem => 0
  | _ => 0

abbrev hbmTy0_0 (i : Nat) : BufTy := match i % 128 with
  | 0 => ⟨S16x128x8192, .f32⟩
  | 1 => ⟨S16x256, .f32⟩
  | 2 => ⟨S128x256, .f32⟩
  | 3 => ⟨S128, .f32⟩
  | 4 => ⟨S256x128, .f32⟩
  | 5 => ⟨S16x128, .f32⟩
  | 6 => ⟨S1x128, .f32⟩
  | 7 => ⟨S16x128, .f32⟩
  | 8 => ⟨S16x128, .f32⟩
  | 9 => ⟨S16x128x1, .f32⟩
  | 10 => ⟨S16x128x1, .f32⟩
  | 11 => ⟨S_, .f32⟩
  | 12 => ⟨S16x128x1, .f32⟩
  | 13 => ⟨S16x128x1, .f32⟩
  | 14 => ⟨S16x128x8192, .f32⟩
  | 15 => ⟨S16x128x8192, .f32⟩
  | 16 => ⟨S8192x4097, .i32⟩
  | 17 => ⟨S8192x4097, .i32⟩
  | 18 => ⟨S_, .f32⟩
  | 19 => ⟨S_, .f32⟩
  | 20 => ⟨S_, .f32⟩
  | 21 => ⟨S_, .f32⟩
  | 22 => ⟨S8192x4097, .i32⟩
  | 23 => ⟨S_, .i32⟩
  | 24 => ⟨S8192x4097, .i32⟩
  | 25 => ⟨S8192x4097, .i32⟩
  | 26 => ⟨S8192x4097, .f32⟩
  | 27 => ⟨S8192x4097, .f32⟩
  | 28 => ⟨S8192x4097, .f32⟩
  | 29 => ⟨S_, .f32⟩
  | 30 => ⟨S8192x4097, .f32⟩
  | 31 => ⟨S8192x4097, .f32⟩
  | 32 => ⟨S8192x4097, .f32⟩
  | 33 => ⟨S8192x4097, .f32⟩
  | 34 => ⟨S16x128x4097, .f32⟩
  | 35 => ⟨S16x128x4097, .f32⟩
  | 36 => ⟨S16x128x4097, .f32⟩
  | 37 => ⟨S16x128x4097, .f32⟩
  | 38 => ⟨S16x128x4097, .f32⟩
  | 39 => ⟨S16x128x4097, .f32⟩
  | 40 => ⟨S16x128x4097, .f32⟩
  | 41 => ⟨S16x128x8, .f32⟩
  | 42 => ⟨S16x128x8, .i32⟩
  | 43 => ⟨S16, .i32⟩
  | 44 => ⟨S16x1x1, .i32⟩
  | 45 => ⟨S128, .i32⟩
  | 46 => ⟨S1x128x1, .i32⟩
  | 47 => ⟨S_, .f32⟩
  | 48 => ⟨S16x128x4097, .f32⟩
  | 49 => ⟨S_, .i32⟩
  | 50 => ⟨S16x128x8, .i32⟩
  | 51 => ⟨S16x128x8, .i1⟩
  | 52 => ⟨S_, .i32⟩
  | 53 => ⟨S16x128x8, .i32⟩
  | 54 => ⟨S16x128x8, .i32⟩
  | 55 => ⟨S16x128x8, .i32⟩
  | 56 => ⟨S16x128x8x1, .i32⟩
  | 57 => ⟨S1, .i32⟩
  | 58 => ⟨S_, .i32⟩
  | 59 => ⟨S16x128x8x1, .i32⟩
  | 60 => ⟨S16x128x8x1, .i1⟩
  | 61 => ⟨S1x1x1x1, .i32⟩
  | 62 => ⟨S16x128x8x1, .i32⟩
  | 63 => ⟨S16x128x8x1, .i1⟩
  | 64 => ⟨S16x128x8x1, .i1⟩
  | 65 => ⟨S_, .i1⟩
  | 66 => ⟨S16x128x8, .i1⟩
  | 67 => ⟨S16x128x8, .f32⟩
  | 68 => ⟨S_, .f32⟩
  | 69 => ⟨S16x128x8, .f32⟩
  | 70 => ⟨S16x128x8, .f32⟩
  | 71 => ⟨S_, .i32⟩
  | 72 => ⟨S16x1x1, .i32⟩
  | 73 => ⟨S16x1x1, .i1⟩
  | 74 => ⟨S_, .i32⟩
  | 75 => ⟨S16x1x1, .i32⟩
  | 76 => ⟨S16x1x1, .i32⟩
  | 77 => ⟨S16x1x1, .i32⟩
  | 78 => ⟨S_, .i32⟩
  | 79 => ⟨S1x128x1, .i32⟩
  | 80 => ⟨S1x128x1, .i1⟩
  | 81 => ⟨S_, .i32⟩
  | 82 => ⟨S1x128x1, .i32⟩
  | 83 => ⟨S1x128x1, .i32⟩
  | 84 => ⟨S1x128x1, .i32⟩
  | 85 => ⟨S_, .i32⟩
  | 86 => ⟨S16x128x8, .i32⟩
  | 87 => ⟨S16x128x8, .i1⟩
  | 88 => ⟨S_, .i32⟩
  | 89 => ⟨S16x128x8, .i32⟩
  | 90 => ⟨S16x128x8, .i32⟩
  | 91 => ⟨S16x128x8, .i32⟩
  | 92 => ⟨S16x128x8, .i32⟩
  | 93 => ⟨S16x128x8, .i32⟩
  | 94 => ⟨S16x128x8x1, .i32⟩
  | 95 => ⟨S16x128x8x1, .i32⟩
  | 96 => ⟨S16x128x8x1, .i32⟩
  | 97 => ⟨S16x128x8x3, .i32⟩
  | 98 => ⟨S16x128x4097, .f32⟩
  | 99 => ⟨S_, .f32⟩
  | 100 => ⟨S16x128x4097, .f32⟩
  | 101 => ⟨S_, .i32⟩
  | 102 => ⟨S16x128x8, .i32⟩
  | 103 => ⟨S16x128x8, .i1⟩
  | 104 => ⟨S_, .i32⟩
  | 105 => ⟨S16x128x8, .i32⟩
  | 106 => ⟨S16x128x8, .i32⟩
  | 107 => ⟨S16x128x8, .i32⟩
  | 108 => ⟨S16x128x8x1, .i32⟩
  | 109 => ⟨S1, .i32⟩
  | 110 => ⟨S_, .i32⟩
  | 111 => ⟨S16x128x8x1, .i32⟩
  | 112 => ⟨S16x128x8x1, .i1⟩
  | 113 => ⟨S1x1x1x1, .i32⟩
  | 114 => ⟨S16x128x8x1, .i32⟩
  | 115 => ⟨S16x128x8x1, .i1⟩
  | 116 => ⟨S16x128x8x1, .i1⟩
  | 117 => ⟨S_, .i1⟩
  | 118 => ⟨S16x128x8, .i1⟩
  | 119 => ⟨S16x128x8, .f32⟩
  | 120 => ⟨S_, .f32⟩
  | 121 => ⟨S16x128x8, .f32⟩
  | 122 => ⟨S16x128x8, .f32⟩
  | 123 => ⟨S_, .i32⟩
  | 124 => ⟨S16x1x1, .i32⟩
  | 125 => ⟨S16x1x1, .i1⟩
  | 126 => ⟨S_, .i32⟩
  | 127 => ⟨S16x1x1, .i32⟩
  | _ => ⟨S16x128x8192, .f32⟩

abbrev hbmTy0_1 (i : Nat) : BufTy := match i % 128 with
  | 0 => ⟨S16x1x1, .i32⟩
  | 1 => ⟨S16x1x1, .i32⟩
  | 2 => ⟨S_, .i32⟩
  | 3 => ⟨S1x128x1, .i32⟩
  | 4 => ⟨S1x128x1, .i1⟩
  | 5 => ⟨S_, .i32⟩
  | 6 => ⟨S1x128x1, .i32⟩
  | 7 => ⟨S1x128x1, .i32⟩
  | 8 => ⟨S1x128x1, .i32⟩
  | 9 => ⟨S_, .i32⟩
  | 10 => ⟨S16x128x8, .i32⟩
  | 11 => ⟨S16x128x8, .i1⟩
  | 12 => ⟨S_, .i32⟩
  | 13 => ⟨S16x128x8, .i32⟩
  | 14 => ⟨S16x128x8, .i32⟩
  | 15 => ⟨S16x128x8, .i32⟩
  | 16 => ⟨S16x128x8, .i32⟩
  | 17 => ⟨S16x128x8, .i32⟩
  | 18 => ⟨S16x128x8x1, .i32⟩
  | 19 => ⟨S16x128x8x1, .i32⟩
  | 20 => ⟨S16x128x8x1, .i32⟩
  | 21 => ⟨S16x128x8x3, .i32⟩
  | 22 => ⟨S16x128x4097, .f32⟩
  | 23 => ⟨S8192x4097, .i32⟩
  | 24 => ⟨S8192x4097, .i32⟩
  | 25 => ⟨S_, .f32⟩
  | 26 => ⟨S_, .f32⟩
  | 27 => ⟨S_, .f32⟩
  | 28 => ⟨S_, .f32⟩
  | 29 => ⟨S8192x4097, .i32⟩
  | 30 => ⟨S_, .i32⟩
  | 31 => ⟨S8192x4097, .i32⟩
  | 32 => ⟨S8192x4097, .i32⟩
  | 33 => ⟨S8192x4097, .f32⟩
  | 34 => ⟨S8192x4097, .f32⟩
  | 35 => ⟨S8192x4097, .f32⟩
  | 36 => ⟨S_, .f32⟩
  | 37 => ⟨S8192x4097, .f32⟩
  | 38 => ⟨S8192x4097, .f32⟩
  | 39 => ⟨S8192x4097, .f32⟩
  | 40 => ⟨S8192x4097, .f32⟩
  | 41 => ⟨S4097, .i32⟩
  | 42 => ⟨S_, .i32⟩
  | 43 => ⟨S4097, .i32⟩
  | 44 => ⟨S4097, .i1⟩
  | 45 => ⟨S_, .i32⟩
  | 46 => ⟨S4097, .i32⟩
  | 47 => ⟨S4097, .i1⟩
  | 48 => ⟨S4097, .i1⟩
  | 49 => ⟨S_, .f32⟩
  | 50 => ⟨S_, .f32⟩
  | 51 => ⟨S4097, .f32⟩
  | 52 => ⟨S4097, .f32⟩
  | 53 => ⟨S4097, .f32⟩
  | 54 => ⟨S4097, .f32⟩
  | 55 => ⟨S1x1x4097, .f32⟩
  | 56 => ⟨S16x128x4097, .f32⟩
  | 57 => ⟨S16x128x4097, .f32⟩
  | 58 => ⟨S16x128x8192, .f32⟩
  | 59 => ⟨S4097, .f32⟩
  | 60 => ⟨S1x1x4097, .f32⟩
  | 61 => ⟨S16x128x4097, .f32⟩
  | 62 => ⟨S16x128x4097, .f32⟩
  | 63 => ⟨S16x128x8192, .f32⟩
  | 64 => ⟨S16x128x8192, .f32⟩
  | 65 => ⟨S_, .f32⟩
  | 66 => ⟨S16x128x8192, .f32⟩
  | 67 => ⟨S16x128x8192, .f32⟩
  | _ => ⟨S16x128x8192, .f32⟩

abbrev hbmTy (i : Nat) : BufTy := match i / 128 with
  | 0 => hbmTy0_0 i
  | 1 => hbmTy0_1 i
  | _ => ⟨S16x128x8192, .f32⟩

abbrev bufTy : (tb : Table) → Fin (tcTables nBuf tb) → BufTy
  | .hbm, ⟨i, _⟩ => hbmTy i
  | _, _ => ⟨S16x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_values : Ref sig .tc := ⟨.hbm, 41, rfl⟩
abbrev main_indices : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_cst : Ref sig .tc := ⟨.hbm, 68, rfl⟩
abbrev main_call0_v14 : Ref sig .tc := ⟨.hbm, 69, rfl⟩
abbrev main_v37 : Ref sig .tc := ⟨.hbm, 70, rfl⟩
abbrev main_c_4 : Ref sig .tc := ⟨.hbm, 71, rfl⟩
abbrev main_v38 : Ref sig .tc := ⟨.hbm, 72, rfl⟩
abbrev main_v39 : Ref sig .tc := ⟨.hbm, 73, rfl⟩
abbrev main_c_5 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_6 : Ref sig .tc := ⟨.hbm, 78, rfl⟩
abbrev main_v43 : Ref sig .tc := ⟨.hbm, 79, rfl⟩
abbrev main_v44 : Ref sig .tc := ⟨.hbm, 80, rfl⟩
abbrev main_c_7 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_8 : Ref sig .tc := ⟨.hbm, 85, rfl⟩
abbrev main_v48 : Ref sig .tc := ⟨.hbm, 86, rfl⟩
abbrev main_v49 : Ref sig .tc := ⟨.hbm, 87, rfl⟩
abbrev main_c_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_10 : Ref sig .tc := ⟨.hbm, 99, rfl⟩
abbrev main_v60 : Ref sig .tc := ⟨.hbm, 100, rfl⟩
abbrev main_call1_c : Ref sig .tc := ⟨.hbm, 101, rfl⟩
abbrev main_call1_v0 : Ref sig .tc := ⟨.hbm, 102, rfl⟩
abbrev main_call1_v1 : Ref sig .tc := ⟨.hbm, 103, rfl⟩
abbrev main_call1_c_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_c_1 : Ref sig .tc := ⟨.hbm, 109, rfl⟩
abbrev main_call1_c_2 : Ref sig .tc := ⟨.hbm, 110, rfl⟩
abbrev main_call1_v6 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_c_3 : Ref sig .tc := ⟨.hbm, 117, rfl⟩
abbrev main_call1_v12 : Ref sig .tc := ⟨.hbm, 118, rfl⟩
abbrev main_call1_v13 : Ref sig .tc := ⟨.hbm, 119, rfl⟩
abbrev main_call1_cst : Ref sig .tc := ⟨.hbm, 120, rfl⟩
abbrev main_call1_v14 : Ref sig .tc := ⟨.hbm, 121, rfl⟩
abbrev main_v61 : Ref sig .tc := ⟨.hbm, 122, rfl⟩
abbrev main_c_11 : Ref sig .tc := ⟨.hbm, 123, rfl⟩
abbrev main_v62 : Ref sig .tc := ⟨.hbm, 124, rfl⟩
abbrev main_v63 : Ref sig .tc := ⟨.hbm, 125, rfl⟩
abbrev main_c_12 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_c_13 : Ref sig .tc := ⟨.hbm, 130, rfl⟩
abbrev main_v67 : Ref sig .tc := ⟨.hbm, 131, rfl⟩
abbrev main_v68 : Ref sig .tc := ⟨.hbm, 132, rfl⟩
abbrev main_c_14 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_c_15 : Ref sig .tc := ⟨.hbm, 137, rfl⟩
abbrev main_v72 : Ref sig .tc := ⟨.hbm, 138, rfl⟩
abbrev main_v73 : Ref sig .tc := ⟨.hbm, 139, rfl⟩
abbrev main_c_16 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_cst_17 : Ref sig .tc := ⟨.hbm, 153, rfl⟩
abbrev main_v86 : Ref sig .tc := ⟨.hbm, 154, rfl⟩
abbrev main_cst_18 : Ref sig .tc := ⟨.hbm, 155, rfl⟩
abbrev main_v87 : Ref sig .tc := ⟨.hbm, 156, rfl⟩
abbrev main_v88 : Ref sig .tc := ⟨.hbm, 157, rfl⟩
abbrev main_c_19 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_20 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_c_21 : Ref sig .tc := ⟨.hbm, 170, rfl⟩
abbrev main_v99 : Ref sig .tc := ⟨.hbm, 171, rfl⟩
abbrev main_v100 : Ref sig .tc := ⟨.hbm, 172, rfl⟩
abbrev main_c_22 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_cst_23 : Ref sig .tc := ⟨.hbm, 177, rfl⟩
abbrev main_cst_24 : Ref sig .tc := ⟨.hbm, 178, rfl⟩
abbrev main_call2_v0 : Ref sig .tc := ⟨.hbm, 179, rfl⟩
abbrev main_call2_v1 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_cst_25 : Ref sig .tc := ⟨.hbm, 193, rfl⟩
abbrev main_v116 : Ref sig .tc := ⟨.hbm, 194, rfl⟩
abbrev main_v117 : Ref sig .tc := ⟨.hbm, 195, rfl⟩

abbrev nD : Nat := 1
abbrev τ : Topo := Topo.v7x

variable {F : FTy → Type} [FloatOps F]
-- ==== Proof.Dft.lean ====
/- The mathematics of the two-stage Fourier transform, over the reals: a transform of length `8192 = 64 · 128`
   taken as transforms of length 64 and 128 with a twiddle between them equals the plain sum over all samples,
   forward and back. Nothing here mentions the program. -/
module

public import Mathlib.Analysis.SpecialFunctions.Trigonometric.Basic
public import Mathlib.Algebra.BigOperators.Fin
public import Mathlib.Logic.Equiv.Fin.Basic

@[expose] public section

noncomputable section

namespace Cert.Proof

open Finset

/-- The angle `-2πm/N`. -/
def ang (N m : ℕ) : ℝ := -2 * Real.pi * m / N

/-- Two angles that differ by a whole number of turns: the cosine and the sine agree. -/
theorem ang_add_mul (N m q : ℕ) (hN : N ≠ 0) : ang N (m + N * q) = ang N m - q * (2 * Real.pi) := by
  have : (N : ℝ) ≠ 0 := by exact_mod_cast hN
  unfold ang
  push_cast
  field_simp
  ring

/-- The cosine of the angle does not see whole turns. -/
theorem cos_ang_add_mul (N m q : ℕ) (hN : N ≠ 0) : Real.cos (ang N (m + N * q)) = Real.cos (ang N m) := by
  rw [ang_add_mul N m q hN, Real.cos_sub_nat_mul_two_pi]

/-- The sine of the angle does not see whole turns. -/
theorem sin_ang_add_mul (N m q : ℕ) (hN : N ≠ 0) : Real.sin (ang N (m + N * q)) = Real.sin (ang N m) := by
  rw [ang_add_mul N m q hN, Real.sin_sub_nat_mul_two_pi]

/-- Reducing the argument modulo `N` keeps the cosine. -/
theorem cos_ang_mod (N m : ℕ) (hN : N ≠ 0) : Real.cos (ang N (m % N)) = Real.cos (ang N m) := by
  conv_rhs => rw [← Nat.mod_add_div m N]
  rw [cos_ang_add_mul _ _ _ hN]

/-- Reducing the argument modulo `N` keeps the sine. -/
theorem sin_ang_mod (N m : ℕ) (hN : N ≠ 0) : Real.sin (ang N (m % N)) = Real.sin (ang N m) := by
  conv_rhs => rw [← Nat.mod_add_div m N]
  rw [sin_ang_add_mul _ _ _ hN]

/-- The three angles of the two-stage transform add up to the plain one, a whole number of turns apart. -/
theorem ang_split (n1 n2 k1 k2 : ℕ) :
    ang 64 (n1 * k1) + ang 8192 (n2 * k1) + ang 128 (n2 * k2) =
      ang 8192 ((n1 * 128 + n2) * (k1 + 64 * k2)) + (n1 * k2 : ℕ) * (2 * Real.pi) := by
  unfold ang
  push_cast
  ring

/-- The cosine of the plain angle, by the three angles of the two stages. -/
theorem cos_split (n1 n2 k1 k2 : ℕ) : Real.cos (ang 8192 ((n1 * 128 + n2) * (k1 + 64 * k2))) =
    Real.cos (ang 64 (n1 * k1) + ang 8192 (n2 * k1) + ang 128 (n2 * k2)) := by
  rw [ang_split, Real.cos_add_nat_mul_two_pi]

/-- The sine of the plain angle, by the three angles of the two stages. -/
theorem sin_split (n1 n2 k1 k2 : ℕ) : Real.sin (ang 8192 ((n1 * 128 + n2) * (k1 + 64 * k2))) =
    Real.sin (ang 64 (n1 * k1) + ang 8192 (n2 * k1) + ang 128 (n2 * k2)) := by
  rw [ang_split, Real.sin_add_nat_mul_two_pi]

/-! ## Sums over a product of two ranges -/

/-- A sum over `8192` is the sum over 64 groups of 128 neighbours. -/
theorem sum_groups (g : ℕ → ℝ) : ∑ n : Fin 8192, g n = ∑ i : Fin 128, ∑ x : Fin 64, g (x * 128 + i) := by
  rw [Finset.sum_comm]
  rw [← (finProdFinEquiv (m := 64) (n := 128)).sum_comp (fun n => g n.val), Fintype.sum_prod_type]
  refine Finset.sum_congr rfl fun x _ => Finset.sum_congr rfl fun i _ => ?_
  simp only [finProdFinEquiv_apply_val]
  congr 1
  ring

/-- A sum over `8192` is the sum over 64 residues of 128 terms 64 apart. -/
theorem sum_strides (g : ℕ → ℝ) : ∑ k1 : Fin 64, ∑ l : Fin 128, g (k1 + 64 * l) = ∑ n : Fin 8192, g n := by
  rw [Finset.sum_comm]
  rw [← (finProdFinEquiv (m := 128) (n := 64)).sum_comp (fun n => g n.val), Fintype.sum_prod_type]
  refine Finset.sum_congr rfl fun x _ => Finset.sum_congr rfl fun i _ => ?_
  simp only [finProdFinEquiv_apply_val]

/-- Summands that vanish from `4097` on: the sum over `8192` is the sum over the first `4097`. -/
theorem sum_half (g : ℕ → ℝ) (h : ∀ k, 4097 ≤ k → g k = 0) : ∑ n : Fin 8192, g n = ∑ n : Fin 4097, g n := by
  rw [Fin.sum_univ_eq_sum_range g 8192, Fin.sum_univ_eq_sum_range g 4097]
  refine (Finset.sum_subset (fun a ha => ?_) fun a _ ha => ?_).symm
  · rw [Finset.mem_range] at ha ⊢; omega
  · rw [Finset.mem_range] at ha; exact h a (by omega)

/-! ## The forward transform -/

/-- The real part of the plain transform of `u` at frequency `k`. -/
def specR (u : ℕ → ℝ) (k : ℕ) : ℝ := ∑ n : Fin 8192, u n * Real.cos (ang 8192 (n * k))
/-- The imaginary part of the plain transform of `u` at frequency `k`. -/
def specI (u : ℕ → ℝ) (k : ℕ) : ℝ := ∑ n : Fin 8192, u n * Real.sin (ang 8192 (n * k))
/-- The squared magnitude of the plain transform at frequency `k`. -/
def pow2 (u : ℕ → ℝ) (k : ℕ) : ℝ := specR u k * specR u k + specI u k * specI u k

/-- First stage, real part: the length-64 transform of the samples `128` apart. -/
def bR (u : ℕ → ℝ) (n2 k1 : ℕ) : ℝ := ∑ x : Fin 64, u (x * 128 + n2) * Real.cos (ang 64 (x * k1))
/-- First stage, imaginary part. -/
def bI (u : ℕ → ℝ) (n2 k1 : ℕ) : ℝ := ∑ x : Fin 64, u (x * 128 + n2) * Real.sin (ang 64 (x * k1))
/-- The first stage times the twiddle, real part. -/
def cR (u : ℕ → ℝ) (n2 k1 : ℕ) : ℝ :=
  bR u n2 k1 * Real.cos (ang 8192 (n2 * k1)) - bI u n2 k1 * Real.sin (ang 8192 (n2 * k1))
/-- The first stage times the twiddle, imaginary part. -/
def cI (u : ℕ → ℝ) (n2 k1 : ℕ) : ℝ :=
  bI u n2 k1 * Real.cos (ang 8192 (n2 * k1)) + bR u n2 k1 * Real.sin (ang 8192 (n2 * k1))

/-- The two stages give the plain transform, real part. -/
theorem forward_re (u : ℕ → ℝ) (k1 k2 : ℕ) :
    ∑ n2 : Fin 128, cR u n2 k1 * Real.cos (ang 128 (n2 * k2)) - ∑ n2 : Fin 128, cI u n2 k1 * Real.sin (ang 128 (n2 * k2))
      = specR u (k1 + 64 * k2) := by
  rw [specR, sum_groups (fun n => u n * Real.cos (ang 8192 (n * (k1 + 64 * k2)))), ← Finset.sum_sub_distrib]
  refine Finset.sum_congr rfl fun n2 _ => ?_
  simp only [cR, cI, bR, bI, Finset.sum_mul, ← Finset.sum_sub_distrib, ← Finset.sum_add_distrib]
  refine Finset.sum_congr rfl fun x _ => ?_
  rw [cos_split, Real.cos_add, Real.cos_add, Real.sin_add]
  ring

/-- The two stages give the plain transform, imaginary part. -/
theorem forward_im (u : ℕ → ℝ) (k1 k2 : ℕ) :
    ∑ n2 : Fin 128, cR u n2 k1 * Real.sin (ang 128 (n2 * k2)) + ∑ n2 : Fin 128, cI u n2 k1 * Real.cos (ang 128 (n2 * k2))
      = specI u (k1 + 64 * k2) := by
  rw [specI, sum_groups (fun n => u n * Real.sin (ang 8192 (n * (k1 + 64 * k2)))), ← Finset.sum_add_distrib]
  refine Finset.sum_congr rfl fun n2 _ => ?_
  simp only [cR, cI, bR, bI, Finset.sum_mul, ← Finset.sum_sub_distrib, ← Finset.sum_add_distrib]
  refine Finset.sum_congr rfl fun x _ => ?_
  rw [sin_split, Real.sin_add, Real.cos_add, Real.sin_add]
  ring

/-- At frequency `64` the length-128 transform's cosine is the alternating sign. -/
theorem cos_alt (n : ℕ) : Real.cos (ang 128 (n * 64)) = (-1) ^ n := by
  have : ang 128 (n * 64) = -(n * Real.pi) := by unfold ang; push_cast; ring
  rw [this, Real.cos_neg, Real.cos_nat_mul_pi]

/-- At frequency `64` the length-128 transform's sine vanishes. -/
theorem sin_alt (n : ℕ) : Real.sin (ang 128 (n * 64)) = 0 := by
  have : ang 128 (n * 64) = -(n * Real.pi) := by unfold ang; push_cast; ring
  rw [this, Real.sin_neg, Real.sin_nat_mul_pi, neg_zero]

/-- The alternating sum of the first twiddled column is the transform at frequency `4096`, real part. -/
theorem nyquist_re (u : ℕ → ℝ) : ∑ n2 : Fin 128, cR u n2 0 * (-1) ^ n2.val = specR u 4096 := by
  rw [← forward_re u 0 64]
  simp only [cos_alt, sin_alt, mul_zero, Finset.sum_const_zero, sub_zero]

/-- The alternating sum of the first twiddled column is the transform at frequency `4096`, imaginary part. -/
theorem nyquist_im (u : ℕ → ℝ) : ∑ n2 : Fin 128, cI u n2 0 * (-1) ^ n2.val = specI u 4096 := by
  rw [← forward_im u 0 64]
  simp only [cos_alt, sin_alt, mul_zero, Finset.sum_const_zero, zero_add]

/-! ## The inverse transform -/

/-- Inverse, first stage: the length-128 transform with conjugated weights, real part. -/
def dR (p q : ℕ → ℕ → ℝ) (k1 n2 : ℕ) : ℝ :=
  ∑ l : Fin 128, p k1 l * Real.cos (ang 128 (l * n2)) + ∑ l : Fin 128, q k1 l * Real.sin (ang 128 (l * n2))
/-- Inverse, first stage, imaginary part. -/
def dI (p q : ℕ → ℕ → ℝ) (k1 n2 : ℕ) : ℝ :=
  ∑ l : Fin 128, q k1 l * Real.cos (ang 128 (l * n2)) - ∑ l : Fin 128, p k1 l * Real.sin (ang 128 (l * n2))

/-- The two inverse stages give the real part of the plain inverse sum. -/
theorem inverse_re (p q : ℕ → ℕ → ℝ) (n1 n2 : ℕ) :
    (∑ k1 : Fin 64, (dR p q k1 n2 * Real.cos (ang 8192 (k1 * n2)) + dI p q k1 n2 * Real.sin (ang 8192 (k1 * n2)))
        * Real.cos (ang 64 (k1 * n1)))
      + ∑ k1 : Fin 64, (dI p q k1 n2 * Real.cos (ang 8192 (k1 * n2)) - dR p q k1 n2 * Real.sin (ang 8192 (k1 * n2)))
        * Real.sin (ang 64 (k1 * n1))
      = ∑ k1 : Fin 64, ∑ l : Fin 128, (p k1 l * Real.cos (ang 8192 ((n1 * 128 + n2) * (k1 + 64 * l)))
          + q k1 l * Real.sin (ang 8192 ((n1 * 128 + n2) * (k1 + 64 * l)))) := by
  rw [← Finset.sum_add_distrib]
  refine Finset.sum_congr rfl fun k1 _ => ?_
  simp only [dR, dI, ← Finset.sum_sub_distrib, ← Finset.sum_add_distrib, Finset.sum_mul]
  refine Finset.sum_congr rfl fun l _ => ?_
  rw [cos_split, sin_split, Real.sin_add, Real.cos_add, Real.cos_add, Real.sin_add,
    Nat.mul_comm n1 k1, Nat.mul_comm n2 k1, Nat.mul_comm n2 l]
  ring

/-- The weight of frequency `k` in the inverse transform of a real signal: `0` and `4096` count once, the rest twice. -/
def wt (k : ℕ) : ℝ := if k = 0 ∨ k = 4096 then 1 else 2

/-- The signal rebuilt from the frequencies `k` with `K k` out of `0 … 4096`, at sample `n`, before the division by `8192`. -/
def rebuilt (u : ℕ → ℝ) (K : ℕ → Prop) [DecidablePred K] (n : ℕ) : ℝ :=
  ∑ k : Fin 4097, if K k then wt k * (specR u k * Real.cos (ang 8192 (n * k)) + specI u k * Real.sin (ang 8192 (n * k))) else 0

/-- The two inverse stages on the kept and weighted frequencies rebuild the signal. -/
theorem inverse_rebuilt (u : ℕ → ℝ) (K : ℕ → Prop) [DecidablePred K] (p q : ℕ → ℕ → ℝ)
    (hp : ∀ (k1 : Fin 64) (l : Fin 128), p k1 l = if k1.val + 64 * l.val < 4097 ∧ K (k1 + 64 * l) then wt (k1 + 64 * l) * specR u (k1 + 64 * l) else 0)
    (hq : ∀ (k1 : Fin 64) (l : Fin 128), q k1 l = if k1.val + 64 * l.val < 4097 ∧ K (k1 + 64 * l) then wt (k1 + 64 * l) * specI u (k1 + 64 * l) else 0)
    (n1 n2 : ℕ) :
    (∑ k1 : Fin 64, (dR p q k1 n2 * Real.cos (ang 8192 (k1 * n2)) + dI p q k1 n2 * Real.sin (ang 8192 (k1 * n2)))
        * Real.cos (ang 64 (k1 * n1)))
      + ∑ k1 : Fin 64, (dI p q k1 n2 * Real.cos (ang 8192 (k1 * n2)) - dR p q k1 n2 * Real.sin (ang 8192 (k1 * n2)))
        * Real.sin (ang 64 (k1 * n1))
      = rebuilt u K (n1 * 128 + n2) := by
  rw [inverse_re]
  rw [rebuilt, ← Finset.sum_congr rfl fun (k : Fin 4097) _ => if_congr (and_iff_right k.isLt) rfl rfl,
    ← sum_half (fun k => if k < 4097 ∧ K k then wt k * (specR u k * Real.cos (ang 8192 ((n1 * 128 + n2) * k))
        + specI u k * Real.sin (ang 8192 ((n1 * 128 + n2) * k))) else 0)
      (fun k hk => if_neg (by omega))]
  refine Eq.trans ?_ (sum_strides (fun k => if k < 4097 ∧ K k then wt k * (specR u k * Real.cos (ang 8192 ((n1 * 128 + n2) * k))
        + specI u k * Real.sin (ang 8192 ((n1 * 128 + n2) * k))) else 0))
  refine Finset.sum_congr rfl fun k1 _ => Finset.sum_congr rfl fun l _ => ?_
  rw [hp, hq]
  by_cases h : k1.val + 64 * l.val < 4097 ∧ K (k1 + 64 * l)
  · simp only [if_pos h]; ring
  · simp only [if_neg h]; ring

end Cert.Proof

end
-- ==== Proof.Consts.lean ====
/- The constants and the elementary functions of the program over the extended reals, at real arguments. -/
module

public import Idealize.ShloMosaic.PureOps.Ideal
public import Idealize.ShloMosaic.PureOps.Ideal.Laws
public import Idealize.ShloMosaic.Lib.Affine
public import proofs.«01_k».proof.Proof.Dft

@[expose] public section

noncomputable section

namespace Cert.Proof

open Idealize.ShloMosaic

/-- A finite sum of reals is the same sum read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word of `2`. -/
theorem word_two : Ideal.ofBits .f32 0x40000000#32 = ((2 : ℝ) : EReal) := by
  simp [Ideal.ofBits, Ideal.ieee, -EReal.coe_mul]; norm_num
/-- The word of `-2`. -/
theorem word_neg_two : Ideal.ofBits .f32 0xC0000000#32 = ((-2 : ℝ) : EReal) := by
  simp [Ideal.ofBits, Ideal.ieee, -EReal.coe_mul]; norm_num
/-- The word of `-1`. -/
theorem word_neg_one : Ideal.ofBits .f32 0xBF800000#32 = ((-1 : ℝ) : EReal) := by
  simp [Ideal.ofBits, Ideal.ieee, -EReal.coe_mul]; norm_num
/-- The word of `1/2`. -/
theorem word_half : Ideal.ofBits .f32 0x3F000000#32 = ((1 / 2 : ℝ) : EReal) := by
  simp [Ideal.ofBits, Ideal.ieee, -EReal.coe_mul]; norm_num
/-- The word of `64`. -/
theorem word_64 : Ideal.ofBits .f32 0x42800000#32 = ((64 : ℝ) : EReal) := by
  simp [Ideal.ofBits, Ideal.ieee, -EReal.coe_mul]; norm_num
/-- The word of `128`. -/
theorem word_128 : Ideal.ofBits .f32 0x43000000#32 = ((128 : ℝ) : EReal) := by
  simp [Ideal.ofBits, Ideal.ieee, -EReal.coe_mul]; norm_num
/-- The word of `8192`. -/
theorem word_8192 : Ideal.ofBits .f32 0x46000000#32 = ((8192 : ℝ) : EReal) := by
  simp [Ideal.ofBits, Ideal.ieee, -EReal.coe_mul]; norm_num
/-- The word of `1/8192`. -/
theorem word_inv_8192 : Ideal.ofBits .f32 0x39000000#32 = ((1 / 8192 : ℝ) : EReal) := by
  simp [Ideal.ofBits, Ideal.ieee, -EReal.coe_mul]; norm_num
/-- The word of the lower infinity. -/
theorem word_bot : Ideal.ofBits .f32 0xFF800000#32 = ⊥ := by
  simp [Ideal.ofBits, Ideal.ieee]
/-- The angle whose cosine is `-1` is `π`. -/
theorem acos_word : Ideal.acos (Ideal.ofBits .f32 0xBF800000#32) = ((Real.pi : ℝ) : EReal) := by
  rw [word_neg_one, Ideal.acos_coe, if_pos (by norm_num), Real.arccos_neg_one]

/-- The quotient of two reals. -/
theorem div_real (x y : ℝ) (h : y ≠ 0) : Ideal.div (x : EReal) (y : EReal) = ((x / y : ℝ) : EReal) := by
  rw [Ideal.div_coe h, ← EReal.coe_mul]
  congr 1
  ring

/-- The hyperbolic tangent of anything is a real. -/
theorem tanh_real (x : EReal) : ∃ r : ℝ, Ideal.tanh x = (r : EReal) := by
  induction x using EReal.rec with
  | bot => exact ⟨-1, by show (-1 : EReal) = _; rw [EReal.coe_neg]; rfl⟩
  | coe r => exact ⟨Real.tanh r, rfl⟩
  | top => exact ⟨1, rfl⟩

/-- A product of two small counts, as a word, read as a real. -/
theorem word_mul_toInt (a b : ℕ) (h : a * b < 2 ^ 31) :
    ((IntOp.muli (BitVec.ofNat 32 a) (BitVec.ofNat 32 b)).toInt : ℝ) = ((a * b : ℕ) : ℝ) := by
  have : (IntOp.muli (BitVec.ofNat 32 a) (BitVec.ofNat 32 b)).toInt = ((a * b : ℕ) : ℤ) := by
    unfold IntOp.muli
    rw [← BitVec.ofNat_mul, BitVec.toInt_eq_toNat_cond, BitVec.toNat_ofNat]
    have : a * b % 2 ^ 32 = a * b := Nat.mod_eq_of_lt (by omega)
    rw [this, if_pos (by omega)]
  rw [this]; norm_cast

/-- The same product reduced modulo `8192`, read as a real. -/
theorem word_mod_toInt (a b : ℕ) (h : a * b < 2 ^ 31) :
    ((IntOp.remsi .host (IntOp.muli (BitVec.ofNat 32 a) (BitVec.ofNat 32 b)) 8192#32).toInt : ℝ) = ((a * b % 8192 : ℕ) : ℝ) := by
  have e : (IntOp.muli (BitVec.ofNat 32 a) (BitVec.ofNat 32 b)).toNat = a * b := by
    unfold IntOp.muli
    rw [← BitVec.ofNat_mul, BitVec.toNat_ofNat]
    exact Nat.mod_eq_of_lt (by omega)
  have e' : (IntOp.remsi .host (IntOp.muli (BitVec.ofNat 32 a) (BitVec.ofNat 32 b)) 8192#32).toNat = a * b % 8192 := by
    rw [← e]; exact IntOp.toNat_remsi .host (by rw [e]; omega) 8192 (by norm_num) (by norm_num)
  have e'' : (IntOp.remsi .host (IntOp.muli (BitVec.ofNat 32 a) (BitVec.ofNat 32 b)) 8192#32).toInt = ((a * b % 8192 : ℕ) : ℤ) := by
    rw [BitVec.toInt_eq_toNat_cond, e', if_pos (by omega)]
  rw [e'']; norm_cast

/-- The program's angle `(-2·arccos(-1))·(a·b)/N`. -/
theorem angle_word (a b N : ℕ) (h : a * b < 2 ^ 31) (hN : N ≠ 0) (w : BitVec 32) (hw : Ideal.ofBits .f32 w = ((N : ℝ) : EReal)) :
    Ideal.div (Ideal.ofBits .f32 0xC0000000#32 * Ideal.acos (Ideal.ofBits .f32 0xBF800000#32)
      * FloatOps.sitofp (F := Ideal) .f32 (IntOp.muli (BitVec.ofNat 32 a) (BitVec.ofNat 32 b))) (Ideal.ofBits .f32 w)
      = ((ang N (a * b) : ℝ) : EReal) := by
  have hs : FloatOps.sitofp (F := Ideal) .f32 (IntOp.muli (BitVec.ofNat 32 a) (BitVec.ofNat 32 b)) = (((a * b : ℕ) : ℝ) : EReal) := by
    rw [← word_mul_toInt a b h]; rfl
  rw [acos_word, word_neg_two, hs, hw, ← EReal.coe_mul, ← EReal.coe_mul, div_real _ _ (by exact_mod_cast hN)]
  rfl

/-- The reference's angle `(2·arccos(-1))·((a·b) mod 8192)/8192`. -/
theorem angle_mod (a b : ℕ) (h : a * b < 2 ^ 31) :
    Ideal.div (Ideal.ofBits .f32 0x40000000#32 * Ideal.acos (Ideal.ofBits .f32 0xBF800000#32)
      * FloatOps.sitofp (F := Ideal) .f32 (IntOp.remsi .host (IntOp.muli (BitVec.ofNat 32 a) (BitVec.ofNat 32 b)) 8192#32))
      (Ideal.ofBits .f32 0x46000000#32) = ((-ang 8192 (a * b % 8192) : ℝ) : EReal) := by
  have hs : FloatOps.sitofp (F := Ideal) .f32 (IntOp.remsi .host (IntOp.muli (BitVec.ofNat 32 a) (BitVec.ofNat 32 b)) 8192#32)
      = (((a * b % 8192 : ℕ) : ℝ) : EReal) := by
    rw [← word_mod_toInt a b h]; rfl
  rw [acos_word, word_two, hs, word_8192, ← EReal.coe_mul, ← EReal.coe_mul, div_real _ _ (by norm_num)]
  congr 1
  unfold ang
  push_cast
  ring

/-- The cosine of the reference's angle. -/
theorem cos_angle_mod (m : ℕ) : Ideal.cos ((-ang 8192 (m % 8192) : ℝ) : EReal) = ((Real.cos (ang 8192 m) : ℝ) : EReal) := by
  rw [Ideal.cos_coe, Real.cos_neg, cos_ang_mod _ _ (by norm_num)]

/-- The sine of the reference's angle. -/
theorem sin_angle_mod (m : ℕ) : Ideal.sin ((-ang 8192 (m % 8192) : ℝ) : EReal) = ((-Real.sin (ang 8192 m) : ℝ) : EReal) := by
  rw [Ideal.sin_coe, Real.sin_neg, sin_ang_mod _ _ (by norm_num)]

end Cert.Proof

end
-- ==== Proof.Tables.lean ====
/- The kernel's twelve table windows: what each table array holds when the launch begins, entry by entry, as a real
   cosine or sine. -/
module

public import proofs.«01_k».proof.Proof.Gen.KernelIdeal.Frame
public import Idealize.ShloMosaic.Lib.Pointwise
public import Idealize.ShloMosaic.Lib.Claim
public import proofs.«01_k».proof.Proof.Consts

@[expose] public section

noncomputable section

namespace Cert.Proof

open Cert.KernelIdeal Cert.KernelIdeal.Gen Idealize.ShloMosaic

variable (m : (ℓ : Loc nD τ sig) → Buf (Elt Ideal) ℓ) (c : Dev nD)

/-- The product of two counts below 128 is small. -/
theorem mul_small (a b : ℕ) (ha : a < 128) (hb : b < 128) : a * b < 2 ^ 31 :=
  (Nat.mul_lt_mul'' ha hb).trans (by norm_num)

/-- The cosine of the program's angle. -/
theorem cos_word (a b N : ℕ) (ha : a < 128) (hb : b < 128) (hN : N ≠ 0) (w : BitVec 32) (hw : Ideal.ofBits .f32 w = ((N : ℝ) : EReal)) :
    Ideal.cos (Ideal.div (Ideal.ofBits .f32 0xC0000000#32 * Ideal.acos (Ideal.ofBits .f32 0xBF800000#32)
      * FloatOps.sitofp (F := Ideal) .f32 (IntOp.muli (BitVec.ofNat 32 a) (BitVec.ofNat 32 b))) (Ideal.ofBits .f32 w))
      = ((Real.cos (ang N (a * b)) : ℝ) : EReal) := by
  rw [angle_word a b N (mul_small a b ha hb) hN w hw, Ideal.cos_coe]

/-- The sine of the program's angle. -/
theorem sin_word (a b N : ℕ) (ha : a < 128) (hb : b < 128) (hN : N ≠ 0) (w : BitVec 32) (hw : Ideal.ofBits .f32 w = ((N : ℝ) : EReal)) :
    Ideal.sin (Ideal.div (Ideal.ofBits .f32 0xC0000000#32 * Ideal.acos (Ideal.ofBits .f32 0xBF800000#32)
      * FloatOps.sitofp (F := Ideal) .f32 (IntOp.muli (BitVec.ofNat 32 a) (BitVec.ofNat 32 b))) (Ideal.ofBits .f32 w))
      = ((Real.sin (ang N (a * b)) : ℝ) : EReal) := by
  rw [angle_word a b N (mul_small a b ha hb) hN w hw, Ideal.sin_coe]

/-- The length-64 cosine table. -/
theorem table_w64r (a b : Fin 64) : (V m c main_call0_v39 : S64x64.Idx → EReal) (ix2 a b) = ((Real.cos (ang 64 (a * b)) : ℝ) : EReal) := by
  entry_read
  simp only [StableHlo.TRef.ofBuf, StableHlo.TRef.toBuf, cast_cast, cast_eq]
  pointwise []
  exact cos_word a b 64 (by omega) (by omega) (by norm_num) _ word_64

/-- The length-64 sine table. -/
theorem table_w64i (a b : Fin 64) : (V m c main_call0_v40 : S64x64.Idx → EReal) (ix2 a b) = ((Real.sin (ang 64 (a * b)) : ℝ) : EReal) := by
  entry_read
  simp only [StableHlo.TRef.ofBuf, StableHlo.TRef.toBuf, cast_cast, cast_eq]
  pointwise []
  exact sin_word a b 64 (by omega) (by omega) (by norm_num) _ word_64

/-- The length-128 cosine table. -/
theorem table_w128r (a b : Fin 128) : (V m c main_call0_v43 : S128x128.Idx → EReal) (ix2 a b) = ((Real.cos (ang 128 (a * b)) : ℝ) : EReal) := by
  entry_read
  simp only [StableHlo.TRef.ofBuf, StableHlo.TRef.toBuf, cast_cast, cast_eq]
  pointwise []
  exact cos_word a b 128 (by omega) (by omega) (by norm_num) _ word_128

/-- The length-128 sine table. -/
theorem table_w128i (a b : Fin 128) : (V m c main_call0_v44 : S128x128.Idx → EReal) (ix2 a b) = ((Real.sin (ang 128 (a * b)) : ℝ) : EReal) := by
  entry_read
  simp only [StableHlo.TRef.ofBuf, StableHlo.TRef.toBuf, cast_cast, cast_eq]
  pointwise []
  exact sin_word a b 128 (by omega) (by omega) (by norm_num) _ word_128

/-- The inverse twiddle's cosines. -/
theorem table_t2r (a : Fin 64) (b : Fin 128) : (V m c main_call0_v52 : S64x128.Idx → EReal) (ix2 a b) = ((Real.cos (ang 8192 (a * b)) : ℝ) : EReal) := by
  entry_read
  simp only [StableHlo.TRef.ofBuf, StableHlo.TRef.toBuf, cast_cast, cast_eq]
  pointwise []
  exact cos_word a b 8192 (by omega) (by omega) (by norm_num) _ word_8192

/-- The inverse twiddle's sines. -/
theorem table_t2i (a : Fin 64) (b : Fin 128) : (V m c main_call0_v53 : S64x128.Idx → EReal) (ix2 a b) = ((Real.sin (ang 8192 (a * b)) : ℝ) : EReal) := by
  entry_read
  simp only [StableHlo.TRef.ofBuf, StableHlo.TRef.toBuf, cast_cast, cast_eq]
  pointwise []
  exact sin_word a b 8192 (by omega) (by omega) (by norm_num) _ word_8192

/-- The length-64 cosines beside the length-64 sines. -/
theorem table_w64cat (a : Fin 64) (b : Fin 128) : (V m c main_call0_v45 : S64x128.Idx → EReal) (ix2 a b)
    = if b.val < 64 then ((Real.cos (ang 64 (a * b)) : ℝ) : EReal) else ((Real.sin (ang 64 (a * (b - 64))) : ℝ) : EReal) := by
  entry_read
  simp only [StableHlo.TRef.ofBuf, StableHlo.TRef.toBuf, cast_cast, cast_eq]
  pointwise []
  split_ifs with h
  · exact cos_word a b 64 (by omega) (by omega) (by norm_num) _ word_64
  · exact sin_word a (b - 64) 64 (by omega) (by omega) (by norm_num) _ word_64

/-- The forward twiddle's cosines, twice. -/
theorem table_t1cat (a b : Fin 128) : (V m c main_call0_v46 : S128x128.Idx → EReal) (ix2 a b)
    = if b.val < 64 then ((Real.cos (ang 8192 (a * b)) : ℝ) : EReal) else ((Real.cos (ang 8192 (a * (b - 64))) : ℝ) : EReal) := by
  entry_read
  simp only [StableHlo.TRef.ofBuf, StableHlo.TRef.toBuf, cast_cast, cast_eq]
  pointwise []
  split_ifs with h
  · exact cos_word a b 8192 (by omega) (by omega) (by norm_num) _ word_8192
  · exact cos_word a (b - 64) 8192 (by omega) (by omega) (by norm_num) _ word_8192

/-- The forward twiddle's sines, negated and as they are. -/
theorem table_t2cat (a b : Fin 128) : (V m c main_call0_v48 : S128x128.Idx → EReal) (ix2 a b)
    = if b.val < 64 then ((-Real.sin (ang 8192 (a * b)) : ℝ) : EReal) else ((Real.sin (ang 8192 (a * (b - 64))) : ℝ) : EReal) := by
  entry_read
  simp only [StableHlo.TRef.ofBuf, StableHlo.TRef.toBuf, cast_cast, cast_eq]
  pointwise []
  split_ifs with h
  · rw [EReal.coe_neg]
    exact congrArg _ (sin_word a b 8192 (by omega) (by omega) (by norm_num) _ word_8192)
  · exact sin_word a (b - 64) 8192 (by omega) (by omega) (by norm_num) _ word_8192

/-- The left halves of the length-128 cosines and sines, side by side. -/
theorem table_w128cat (a b : Fin 128) : (V m c main_call0_v51 : S128x128.Idx → EReal) (ix2 a b)
    = if b.val < 64 then ((Real.cos (ang 128 (a * b)) : ℝ) : EReal) else ((Real.sin (ang 128 (a * (b - 64))) : ℝ) : EReal) := by
  entry_read
  simp only [StableHlo.TRef.ofBuf, StableHlo.TRef.toBuf, cast_cast, cast_eq]
  pointwise []
  split_ifs with h
  · exact cos_word a b 128 (by omega) (by omega) (by norm_num) _ word_128
  · exact sin_word a (b - 64) 128 (by omega) (by omega) (by norm_num) _ word_128

/-- The gate's offset, as two rows of 64. -/
theorem entry_bias (a : Fin 2) (d : Fin 64) : (V m c main_call0_v0 : S2x1x64.Idx → EReal) (ix3 a 0 d)
    = (m (c, Proc.tc.devRef main_arg3) : S128.Idx → EReal) (ix1 ⟨a * 64 + d, by omega⟩) := by
  entry_read
  pointwise []

/-- The gate's input, one row per batch. -/
theorem entry_embed (a : Fin 16) (d : Fin 256) : (V m c main_call0_v1 : S16x1x256.Idx → EReal) (ix3 a 0 d)
    = (m (c, Proc.tc.devRef main_arg1) : S16x256.Idx → EReal) (ix2 a d) := by
  entry_read
  pointwise []

end Cert.Proof

end
-- ==== Proof.Windows.lean ====
/- What the kernel's windows hold at a grid point: the samples, the gate's parts and the tables, and where the output
   block lies in the result. Grid point `t` is batch `t / 2` and half `t % 2` of the channels. -/
module

public import proofs.«01_k».proof.Proof.Gen.KernelIdeal.Value
public import proofs.«01_k».proof.Proof.Tables

@[expose] public section

noncomputable section

namespace Cert.Proof

open Cert.KernelIdeal Cert.KernelIdeal.Gen Idealize.ShloMosaic

variable (m : (ℓ : Loc nD τ sig) → Buf (Elt Ideal) ℓ) (c : Dev nD)

/-- Block numbers of the moving windows. -/
theorem moving : ∀ t : Fin cfg0.N, (win0_0.index t 0 = t.val / 2 ∧ win0_0.index t 1 = t.val % 2 ∧ win0_0.index t 2 = 0)
    ∧ (win0_1.index t 0 = t.val / 2 ∧ win0_1.index t 1 = 0 ∧ win0_1.index t 2 = 0)
    ∧ (win0_2.index t 0 = t.val % 2 ∧ win0_2.index t 1 = 0)
    ∧ (win0_3.index t 0 = t.val % 2 ∧ win0_3.index t 1 = 0 ∧ win0_3.index t 2 = 0)
    ∧ (win0_14.index t 0 = t.val / 2 ∧ win0_14.index t 1 = t.val % 2 ∧ win0_14.index t 2 = 0) :=
  (by decide +kernel : ∀ t : Fin grid0.N, _)

/-- The tables' windows stay at the whole table. -/
theorem still : ∀ t : Fin cfg0.N, ∀ a : Fin 2, win0_4.index t a = 0 ∧ win0_5.index t a = 0 ∧ win0_6.index t a = 0 ∧ win0_7.index t a = 0
    ∧ win0_8.index t a = 0 ∧ win0_9.index t a = 0 ∧ win0_10.index t a = 0 ∧ win0_11.index t a = 0 ∧ win0_12.index t a = 0
    ∧ win0_13.index t a = 0 :=
  (by decide +kernel : ∀ t : Fin grid0.N, _)

/-- There are 32 grid points. -/
theorem points : cfg0.N = 32 := rfl

/-- The samples' block. -/
theorem block_x (t : Fin cfg0.N) (b : Fin 16) (h : Fin 2) (ht : t.val = b.val * 2 + h.val) (r : Fin 64) (n : Fin 8192) :
    (iblk m c 0 t : Vec Ideal S1x64x8192 .f32) (ix3 0 r n)
      = (m (c, Proc.tc.devRef main_arg0) : S16x128x8192.Idx → EReal) (ix3 b ⟨h.val * 64 + r.val, by omega⟩ n) := by
  have hi := (moving t).1
  unfold iblk
  rw [View.read_apply]
  refine Eq.trans (?_ : _ = (V m c main_arg0 : S16x128x8192.Idx → EReal) (ix3 b ⟨h.val * 64 + r.val, by omega⟩ n)) (congrFun (V_main_arg0 m c) _)
  show (V m c main_arg0 : S16x128x8192.Idx → EReal) _ = _
  congr 1
  funext a
  apply Fin.ext
  match a with
  | ⟨0, _⟩ => show win0_0.index t 0 * 1 + 1 * 0 = b.val; rw [hi.1]; omega
  | ⟨1, _⟩ => show win0_0.index t 1 * 64 + 1 * r.val = h.val * 64 + r.val; rw [hi.2.1]; omega
  | ⟨2, _⟩ => show win0_0.index t 2 * 8192 + 1 * n.val = n.val; rw [hi.2.2]; omega

/-- The gate's input block. -/
theorem block_embed (t : Fin cfg0.N) (b : Fin 16) (h : Fin 2) (ht : t.val = b.val * 2 + h.val) (d : Fin 256) :
    (iblk m c 1 t : Vec Ideal S1x1x256 .f32) (ix3 0 0 d) = (m (c, Proc.tc.devRef main_arg1) : S16x256.Idx → EReal) (ix2 b d) := by
  have hi := (moving t).2.1
  unfold iblk
  rw [View.read_apply, ← entry_embed m c]
  show (V m c main_call0_v1 : S16x1x256.Idx → EReal) _ = _
  congr 1
  funext a
  apply Fin.ext
  match a with
  | ⟨0, _⟩ => show win0_1.index t 0 * 1 + 1 * 0 = b.val; rw [hi.1]; omega
  | ⟨1, _⟩ => show win0_1.index t 1 * 1 + 1 * 0 = 0; rw [hi.2.1]
  | ⟨2, _⟩ => show win0_1.index t 2 * 256 + 1 * d.val = d.val; rw [hi.2.2]; omega

/-- The gate's weights block. -/
theorem block_weight (t : Fin cfg0.N) (b : Fin 16) (h : Fin 2) (ht : t.val = b.val * 2 + h.val) (r : Fin 64) (d : Fin 256) :
    (iblk m c 2 t : Vec Ideal S64x256 .f32) (ix2 r d)
      = (m (c, Proc.tc.devRef main_arg2) : S128x256.Idx → EReal) (ix2 ⟨h.val * 64 + r.val, by omega⟩ d) := by
  have hi := (moving t).2.2.1
  unfold iblk
  rw [View.read_apply]
  refine Eq.trans (?_ : _ = (V m c main_arg2 : S128x256.Idx → EReal) (ix2 ⟨h.val * 64 + r.val, by omega⟩ d)) (congrFun (V_main_arg2 m c) _)
  show (V m c main_arg2 : S128x256.Idx → EReal) _ = _
  congr 1
  funext a
  apply Fin.ext
  match a with
  | ⟨0, _⟩ => show win0_2.index t 0 * 64 + 1 * r.val = h.val * 64 + r.val; rw [hi.1]; omega
  | ⟨1, _⟩ => show win0_2.index t 1 * 256 + 1 * d.val = d.val; rw [hi.2]; omega

/-- The gate's offsets block. -/
theorem block_bias (t : Fin cfg0.N) (b : Fin 16) (h : Fin 2) (ht : t.val = b.val * 2 + h.val) (r : Fin 64) :
    (iblk m c 3 t : Vec Ideal S1x1x64 .f32) (ix3 0 0 r)
      = (m (c, Proc.tc.devRef main_arg3) : S128.Idx → EReal) (ix1 ⟨h.val * 64 + r.val, by omega⟩) := by
  have hi := (moving t).2.2.2.1
  unfold iblk
  rw [View.read_apply, ← entry_bias m c]
  show (V m c main_call0_v0 : S2x1x64.Idx → EReal) _ = _
  congr 1
  funext a
  apply Fin.ext
  match a with
  | ⟨0, _⟩ => show win0_3.index t 0 * 1 + 1 * 0 = h.val; rw [hi.1]; omega
  | ⟨1, _⟩ => show win0_3.index t 1 * 1 + 1 * 0 = 0; rw [hi.2.1]
  | ⟨2, _⟩ => show win0_3.index t 2 * 64 + 1 * r.val = r.val; rw [hi.2.2]; omega

/-- The length-128 cosines' block is the table. -/
theorem block_w128r (t : Fin cfg0.N) (x y : Fin 128) :
    (iblk m c 4 t : Vec Ideal S128x128 .f32) (ix2 x y) = (V m c main_call0_v43 : S128x128.Idx → EReal) (ix2 x y) := by
  unfold iblk
  rw [View.read_apply]
  show (V m c main_call0_v43 : S128x128.Idx → EReal) _ = _
  congr 1
  funext a
  apply Fin.ext
  match a with
  | ⟨0, _⟩ => show win0_4.index t 0 * 128 + 1 * x.val = x.val; rw [(still t 0).1]; omega
  | ⟨1, _⟩ => show win0_4.index t 1 * 128 + 1 * y.val = y.val; rw [(still t 1).1]; omega

/-- The length-128 sines' block is the table. -/
theorem block_w128i (t : Fin cfg0.N) (x y : Fin 128) :
    (iblk m c 5 t : Vec Ideal S128x128 .f32) (ix2 x y) = (V m c main_call0_v44 : S128x128.Idx → EReal) (ix2 x y) := by
  unfold iblk
  rw [View.read_apply]
  show (V m c main_call0_v44 : S128x128.Idx → EReal) _ = _
  congr 1
  funext a
  apply Fin.ext
  match a with
  | ⟨0, _⟩ => show win0_5.index t 0 * 128 + 1 * x.val = x.val; rw [(still t 0).2.1]; omega
  | ⟨1, _⟩ => show win0_5.index t 1 * 128 + 1 * y.val = y.val; rw [(still t 1).2.1]; omega

/-- The inverse twiddle cosines' block is the table. -/
theorem block_t2r (t : Fin cfg0.N) (x : Fin 64) (y : Fin 128) :
    (iblk m c 6 t : Vec Ideal S64x128 .f32) (ix2 x y) = (V m c main_call0_v52 : S64x128.Idx → EReal) (ix2 x y) := by
  unfold iblk
  rw [View.read_apply]
  show (V m c main_call0_v52 : S64x128.Idx → EReal) _ = _
  congr 1
  funext a
  apply Fin.ext
  match a with
  | ⟨0, _⟩ => show win0_6.index t 0 * 64 + 1 * x.val = x.val; rw [(still t 0).2.2.1]; omega
  | ⟨1, _⟩ => show win0_6.index t 1 * 128 + 1 * y.val = y.val; rw [(still t 1).2.2.1]; omega

/-- The inverse twiddle sines' block is the table. -/
theorem block_t2i (t : Fin cfg0.N) (x : Fin 64) (y : Fin 128) :
    (iblk m c 7 t : Vec Ideal S64x128 .f32) (ix2 x y) = (V m c main_call0_v53 : S64x128.Idx → EReal) (ix2 x y) := by
  unfold iblk
  rw [View.read_apply]
  show (V m c main_call0_v53 : S64x128.Idx → EReal) _ = _
  congr 1
  funext a
  apply Fin.ext
  match a with
  | ⟨0, _⟩ => show win0_7.index t 0 * 64 + 1 * x.val = x.val; rw [(still t 0).2.2.2.1]; omega
  | ⟨1, _⟩ => show win0_7.index t 1 * 128 + 1 * y.val = y.val; rw [(still t 1).2.2.2.1]; omega

/-- The first stage table's block is the table. -/
theorem block_w64cat (t : Fin cfg0.N) (x : Fin 64) (y : Fin 128) :
    (iblk m c 8 t : Vec Ideal S64x128 .f32) (ix2 x y) = (V m c main_call0_v45 : S64x128.Idx → EReal) (ix2 x y) := by
  unfold iblk
  rw [View.read_apply]
  show (V m c main_call0_v45 : S64x128.Idx → EReal) _ = _
  congr 1
  funext a
  apply Fin.ext
  match a with
  | ⟨0, _⟩ => show win0_8.index t 0 * 64 + 1 * x.val = x.val; rw [(still t 0).2.2.2.2.1]; omega
  | ⟨1, _⟩ => show win0_8.index t 1 * 128 + 1 * y.val = y.val; rw [(still t 1).2.2.2.2.1]; omega

/-- The forward twiddle cosines' block is the table. -/
theorem block_t1cat (t : Fin cfg0.N) (x y : Fin 128) :
    (iblk m c 9 t : Vec Ideal S128x128 .f32) (ix2 x y) = (V m c main_call0_v46 : S128x128.Idx → EReal) (ix2 x y) := by
  unfold iblk
  rw [View.read_apply]
  show (V m c main_call0_v46 : S128x128.Idx → EReal) _ = _
  congr 1
  funext a
  apply Fin.ext
  match a with
  | ⟨0, _⟩ => show win0_9.index t 0 * 128 + 1 * x.val = x.val; rw [(still t 0).2.2.2.2.2.1]; omega
  | ⟨1, _⟩ => show win0_9.index t 1 * 128 + 1 * y.val = y.val; rw [(still t 1).2.2.2.2.2.1]; omega

/-- The forward twiddle sines' block is the table. -/
theorem block_t2cat (t : Fin cfg0.N) (x y : Fin 128) :
    (iblk m c 10 t : Vec Ideal S128x128 .f32) (ix2 x y) = (V m c main_call0_v48 : S128x128.Idx → EReal) (ix2 x y) := by
  unfold iblk
  rw [View.read_apply]
  show (V m c main_call0_v48 : S128x128.Idx → EReal) _ = _
  congr 1
  funext a
  apply Fin.ext
  match a with
  | ⟨0, _⟩ => show win0_10.index t 0 * 128 + 1 * x.val = x.val; rw [(still t 0).2.2.2.2.2.2.1]; omega
  | ⟨1, _⟩ => show win0_10.index t 1 * 128 + 1 * y.val = y.val; rw [(still t 1).2.2.2.2.2.2.1]; omega

/-- The second stage table's block is the table. -/
theorem block_w128cat (t : Fin cfg0.N) (x y : Fin 128) :
    (iblk m c 11 t : Vec Ideal S128x128 .f32) (ix2 x y) = (V m c main_call0_v51 : S128x128.Idx → EReal) (ix2 x y) := by
  unfold iblk
  rw [View.read_apply]
  show (V m c main_call0_v51 : S128x128.Idx → EReal) _ = _
  congr 1
  funext a
  apply Fin.ext
  match a with
  | ⟨0, _⟩ => show win0_11.index t 0 * 128 + 1 * x.val = x.val; rw [(still t 0).2.2.2.2.2.2.2.1]; omega
  | ⟨1, _⟩ => show win0_11.index t 1 * 128 + 1 * y.val = y.val; rw [(still t 1).2.2.2.2.2.2.2.1]; omega

/-- The length-64 cosines' block is the table. -/
theorem block_w64r (t : Fin cfg0.N) (x y : Fin 64) :
    (iblk m c 12 t : Vec Ideal S64x64 .f32) (ix2 x y) = (V m c main_call0_v39 : S64x64.Idx → EReal) (ix2 x y) := by
  unfold iblk
  rw [View.read_apply]
  show (V m c main_call0_v39 : S64x64.Idx → EReal) _ = _
  congr 1
  funext a
  apply Fin.ext
  match a with
  | ⟨0, _⟩ => show win0_12.index t 0 * 64 + 1 * x.val = x.val; rw [(still t 0).2.2.2.2.2.2.2.2.1]; omega
  | ⟨1, _⟩ => show win0_12.index t 1 * 64 + 1 * y.val = y.val; rw [(still t 1).2.2.2.2.2.2.2.2.1]; omega

/-- The length-64 sines' block is the table. -/
theorem block_w64i (t : Fin cfg0.N) (x y : Fin 64) :
    (iblk m c 13 t : Vec Ideal S64x64 .f32) (ix2 x y) = (V m c main_call0_v40 : S64x64.Idx → EReal) (ix2 x y) := by
  unfold iblk
  rw [View.read_apply]
  show (V m c main_call0_v40 : S64x64.Idx → EReal) _ = _
  congr 1
  funext a
  apply Fin.ext
  match a with
  | ⟨0, _⟩ => show win0_13.index t 0 * 64 + 1 * x.val = x.val; rw [(still t 0).2.2.2.2.2.2.2.2.2]; omega
  | ⟨1, _⟩ => show win0_13.index t 1 * 64 + 1 * y.val = y.val; rw [(still t 1).2.2.2.2.2.2.2.2.2]; omega

/-- Every point writes its block back. -/
theorem flushes : ∀ t : Fin cfg0.N, (cfg0.win 14).flush t = true :=
  (by decide +kernel : ∀ t : Fin grid0.N, _)

/-- The result array at an index is what the point of its batch and channel half stored. -/
theorem result_apply (t : Fin cfg0.N) (b : Fin 16) (h : Fin 2) (ht : t.val = b.val * 2 + h.val) (r : Fin 64) (n : Fin 8192) :
    ((dats m 0 c).arrAt 14 cfg0.N : S16x128x8192.Idx → EReal) (ix3 b ⟨h.val * 64 + r.val, by omega⟩ n)
      = (out0_14 (iblk m c 0 t) (iblk m c 1 t) (iblk m c 2 t) (iblk m c 3 t) (iblk m c 4 t) (iblk m c 5 t) (iblk m c 6 t)
          (iblk m c 7 t) (iblk m c 8 t) (iblk m c 9 t) (iblk m c 10 t) (iblk m c 11 t) (iblk m c 12 t) (iblk m c 13 t)
          : S1x64x8192.Idx → EReal) (ix3 0 r n) := by
  have hi := (moving t).2.2.2.2
  have hb := congrFun (Cert.KernelIdeal.Value.blocks14 m c t (flushes t)) (ix3 0 r n : S1x64x8192.Idx)
  rw [Cert.KernelIdeal.Value.flushed14, View.read_apply] at hb
  generalize (out0_14 (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)) = o at hb ⊢
  generalize (dats m 0 c).arrAt 14 cfg0.N = R at hb ⊢
  have ho : (cfg0.win 14).cut (grid0.coords t) o (ix3 0 r n : S1x64x8192.Idx) = (o : S1x64x8192.Idx → EReal) (ix3 0 r n) := rfl
  rw [← ho]
  refine Eq.trans ?_ hb
  show (R : S16x128x8192.Idx → EReal) _ = (R : S16x128x8192.Idx → EReal) _
  congr 1
  funext a
  apply Fin.ext
  match a with
  | ⟨0, _⟩ => show b.val = win0_14.index t 0 * 1 + 1 * 0; rw [hi.1]; omega
  | ⟨1, _⟩ => show h.val * 64 + r.val = win0_14.index t 1 * 64 + 1 * r.val; rw [hi.2.1]; omega
  | ⟨2, _⟩ => show n.val = win0_14.index t 2 * 8192 + 1 * n.val; rw [hi.2.2]; omega

end Cert.Proof

end
-- ==== Proof.Spectrum.lean ====
/- The kernel's forward transform: each intermediate array of one block, entry by entry, is the real stage of the
   two-stage transform, and the last one is the plain transform of the modulated samples. -/
module

public import proofs.«01_k».proof.Proof.Gen.KernelIdeal.Skeleton
public import Idealize.ShloMosaic.Lib.Pointwise
public import proofs.«01_k».proof.Proof.Consts

@[expose] public section

noncomputable section

namespace Cert.Proof

open Cert.KernelIdeal Cert.KernelIdeal.Gen Idealize.ShloMosaic

/-- The lower half of the 128 lanes. -/
abbrev lo (k : Fin 64) : Fin 128 := ⟨k.val, by omega⟩
/-- The upper half of the 128 lanes. -/
abbrev hi (k : Fin 64) : Fin 128 := ⟨64 + k.val, by omega⟩

variable {u : Fin 64 → ℕ → ℝ}

section first

variable {te : Vec Ideal S1x1x256 .f32} {W : Vec Ideal S64x256 .f32} {b : Vec Ideal S1x1x64 .f32} {x : Vec Ideal S1x64x8192 .f32}
  {w : Vec Ideal S64x128 .f32} {s : Fin 64 → ℕ → ℝ} {g : Fin 64 → ℝ}

/-- The first stage at an entry: the modulated samples times the table, summed. -/
theorem first_apply (hx : ∀ r (n : Fin 8192), x (ix3 0 r n) = ((s r n : ℝ) : EReal))
    (hg : ∀ r, 1 + Ideal.tanh (∑ j, te (ix3 0 0 j) * W (ix2 r j) + b (ix3 0 0 r)) = ((g r : ℝ) : EReal))
    {v : ℕ → ℝ} (r : Fin 64) (n k : Fin 128) (hw : ∀ a : Fin 64, w (ix2 a k) = ((v a : ℝ) : EReal)) :
    k0_pay6 te W b x w (ix3 r n k) = ((∑ a : Fin 64, s r (a * 128 + n) * g r * v a : ℝ) : EReal) := by
  pointwise [k0_pay6]
  simp only [hx, hg, hw, ← EReal.coe_mul, coe_sum]

/-- The first stage with its lane halves exchanged. -/
theorem first_swap_lo (r : Fin 64) (n : Fin 128) (k : Fin 64) :
    k0_pay7 te W b x w (ix3 r n (lo k)) = k0_pay6 te W b x w (ix3 r n (hi k)) := by
  pointwise [k0_pay7]

/-- The first stage with its lane halves exchanged, upper half. -/
theorem first_swap_hi (r : Fin 64) (n : Fin 128) (k : Fin 64) :
    k0_pay7 te W b x w (ix3 r n (hi k)) = k0_pay6 te W b x w (ix3 r n (lo k)) := by
  pointwise [k0_pay7]

end first

section twiddle

variable {A B : FVec Ideal S64x128x128 .f32} {t1 t2 : Vec Ideal S128x128 .f32}

/-- What the first stage and its exchanged copy hold: real parts in one half, imaginary parts in the other. -/
structure First (u : Fin 64 → ℕ → ℝ) (A B : FVec Ideal S64x128x128 .f32) : Prop where
  /-- real parts, lower half -/
  re : ∀ r (n : Fin 128) (k : Fin 64), A (ix3 r n (lo k)) = ((bR (u r) n k : ℝ) : EReal)
  /-- imaginary parts, upper half -/
  im : ∀ r (n : Fin 128) (k : Fin 64), A (ix3 r n (hi k)) = ((bI (u r) n k : ℝ) : EReal)
  /-- exchanged: imaginary parts, lower half -/
  re' : ∀ r (n : Fin 128) (k : Fin 64), B (ix3 r n (lo k)) = ((bI (u r) n k : ℝ) : EReal)
  /-- exchanged: real parts, upper half -/
  im' : ∀ r (n : Fin 128) (k : Fin 64), B (ix3 r n (hi k)) = ((bR (u r) n k : ℝ) : EReal)

/-- What the two twiddle tables hold. -/
structure Twiddle (t1 t2 : Vec Ideal S128x128 .f32) : Prop where
  /-- cosines, lower half -/
  re : ∀ (n : Fin 128) (k : Fin 64), t1 (ix2 n (lo k)) = ((Real.cos (ang 8192 (n * k)) : ℝ) : EReal)
  /-- cosines, upper half -/
  im : ∀ (n : Fin 128) (k : Fin 64), t1 (ix2 n (hi k)) = ((Real.cos (ang 8192 (n * k)) : ℝ) : EReal)
  /-- negated sines, lower half -/
  re' : ∀ (n : Fin 128) (k : Fin 64), t2 (ix2 n (lo k)) = ((-Real.sin (ang 8192 (n * k)) : ℝ) : EReal)
  /-- sines, upper half -/
  im' : ∀ (n : Fin 128) (k : Fin 64), t2 (ix2 n (hi k)) = ((Real.sin (ang 8192 (n * k)) : ℝ) : EReal)

/-- The twiddled first stage, real part. -/
theorem twiddled_re (h : First u A B) (ht : Twiddle t1 t2) (r : Fin 64) (n : Fin 128) (k : Fin 64) :
    k0_pay8 A B t1 t2 (ix3 r n (lo k)) = ((cR (u r) n k : ℝ) : EReal) := by
  pointwise [k0_pay8]
  rw [h.re, h.re', ht.re, ht.re', ← EReal.coe_mul, ← EReal.coe_mul, ← EReal.coe_add, cR]
  congr 1
  ring

/-- The twiddled first stage, imaginary part. -/
theorem twiddled_im (h : First u A B) (ht : Twiddle t1 t2) (r : Fin 64) (n : Fin 128) (k : Fin 64) :
    k0_pay8 A B t1 t2 (ix3 r n (hi k)) = ((cI (u r) n k : ℝ) : EReal) := by
  pointwise [k0_pay8]
  rw [h.im, h.im', ht.im, ht.im', ← EReal.coe_mul, ← EReal.coe_mul, ← EReal.coe_add, cI]

/-- The transposed twiddled stage is the twiddled stage. -/
theorem transposed_apply (r : Fin 64) (k n : Fin 128) : k0_pay9 A B t1 t2 (ix3 r k n) = k0_pay8 A B t1 t2 (ix3 r n k) := by
  pointwise [k0_pay9]

end twiddle

section second

variable {A B : FVec Ideal S64x128x128 .f32} {t1 t2 w : Vec Ideal S128x128 .f32}

/-- What the second stage's table holds: cosines in the lower half of the lanes, sines in the upper. -/
structure Half (w : Vec Ideal S128x128 .f32) : Prop where
  /-- cosines, lower half -/
  re : ∀ (n : Fin 128) (k : Fin 64), w (ix2 n (lo k)) = ((Real.cos (ang 128 (n * k)) : ℝ) : EReal)
  /-- sines, upper half -/
  im : ∀ (n : Fin 128) (k : Fin 64), w (ix2 n (hi k)) = ((Real.sin (ang 128 (n * k)) : ℝ) : EReal)

/-- The second stage of the real rows. -/
theorem second_apply (r k1 : Fin 64) (l : Fin 128) :
    k0_pay10 A B t1 t2 w (ix3 r k1 l) = ∑ n : Fin 128, k0_pay8 A B t1 t2 (ix3 r n (lo k1)) * w (ix2 n l) := by
  pointwise [k0_pay10]
  simp only [transposed_apply]

/-- The second stage of the imaginary rows, lane halves exchanged: lower half. -/
theorem second_swap_lo (r k1 k2 : Fin 64) :
    k0_pay11 A B t1 t2 w (ix3 r k1 (lo k2)) = ∑ n : Fin 128, k0_pay8 A B t1 t2 (ix3 r n (hi k1)) * w (ix2 n (hi k2)) := by
  pointwise [k0_pay11]
  simp only [transposed_apply]

/-- The second stage of the imaginary rows, lane halves exchanged: upper half. -/
theorem second_swap_hi (r k1 k2 : Fin 64) :
    k0_pay11 A B t1 t2 w (ix3 r k1 (hi k2)) = ∑ n : Fin 128, k0_pay8 A B t1 t2 (ix3 r n (hi k1)) * w (ix2 n (lo k2)) := by
  pointwise [k0_pay11]
  simp only [transposed_apply]

/-- The kernel's spectrum, real part: the plain transform at frequency `k1 + 64·k2`. -/
theorem spectrum_re (h : First u A B) (ht : Twiddle t1 t2) (hw : Half w) (r k1 k2 : Fin 64) :
    k0_pay12 A B t1 t2 w w (ix3 r k1 (lo k2)) = ((specR (u r) (k1 + 64 * k2) : ℝ) : EReal) := by
  pointwise [k0_pay12]
  rw [second_apply, second_swap_lo]
  simp only [twiddled_re h ht, twiddled_im h ht, hw.re, hw.im, ← EReal.coe_mul, coe_sum, ← EReal.coe_sub]
  rw [forward_re]

/-- The kernel's spectrum, imaginary part. -/
theorem spectrum_im (h : First u A B) (ht : Twiddle t1 t2) (hw : Half w) (r k1 k2 : Fin 64) :
    k0_pay13 A B t1 t2 w w (ix3 r k1 (lo k2)) = ((specI (u r) (k1 + 64 * k2) : ℝ) : EReal) := by
  pointwise [k0_pay13]
  rw [second_apply, second_swap_hi]
  simp only [twiddled_re h ht, twiddled_im h ht, hw.re, hw.im, ← EReal.coe_mul, coe_sum, ← EReal.coe_add]
  rw [forward_im]

end second

section nyquist

variable {C : FVec Ideal S64x128x128 .f32}

/-- The sign of row `x` in the alternating sum, as the program forms it from the row number's remainder by two. -/
def rowWord (x : Fin 128) : BitVec 32 :=
  Scalar.select (IntOp.andi ((k0_pay16 : IVec S1x128x1 1) (ix3 0 x 0)) ((k0_pay15 : IVec S1x128x1 1) (ix3 0 x 0)))
    (IntOp.addi ((k0_pay14 : IVec S1x128x1 32) (ix3 0 x 0)) (Scalar.select (Scalar.cmpi .eq 2#32 0#32) 1#32 2#32))
    ((k0_pay14 : IVec S1x128x1 32) (ix3 0 x 0))

/-- The remainder by two, in words. -/
theorem rowWord_eq (x : Fin 128) : rowWord x = BitVec.ofNat 32 (x.val % 2) := by
  unfold rowWord
  pointwise [k0_pay14, k0_pay15, k0_pay16]
  revert x
  decide +kernel

/-- One minus twice the remainder by two is the alternating sign. -/
theorem rowSign (x : Fin 128) :
    1 - Ideal.ofBits .f32 0x40000000#32 * FloatOps.sitofp (F := Ideal) .f32 (rowWord x) = (((-1) ^ x.val : ℝ) : EReal) := by
  rw [rowWord_eq, word_two]
  rcases Nat.mod_two_eq_zero_or_one x.val with h | h
  · rw [h, Even.neg_one_pow (Nat.even_iff.2 h)]
    have : FloatOps.sitofp (F := Ideal) .f32 (BitVec.ofNat 32 0) = ((0 : ℝ) : EReal) := by
      show (((BitVec.ofNat 32 0).toInt : ℝ) : EReal) = _
      norm_num
    rw [this, ← EReal.coe_mul, mul_zero, ← EReal.coe_one, ← EReal.coe_sub, sub_zero]
  · rw [h, Odd.neg_one_pow (Nat.odd_iff.2 h)]
    have : FloatOps.sitofp (F := Ideal) .f32 (BitVec.ofNat 32 1) = ((1 : ℝ) : EReal) := by
      show (((BitVec.ofNat 32 1).toInt : ℝ) : EReal) = _
      norm_num
    rw [this, ← EReal.coe_mul, mul_one, ← EReal.coe_one, ← EReal.coe_sub]
    norm_num

/-- The column sums with alternating sign. -/
theorem alternating_apply (v : Fin 128 → ℝ) (r : Fin 64) (l : Fin 128) (hC : ∀ n, C (ix3 r n l) = ((v n : ℝ) : EReal)) :
    k0_pay17 C (Scalar.select (Scalar.cmpi .eq 2#32 0#32) 1#32 2#32) k0_pay14 k0_pay15 k0_pay16 (ix2 r l)
      = ((∑ n, v n * (-1) ^ n.val : ℝ) : EReal) := by
  pointwise [k0_pay17]
  rw [← coe_sum]
  refine Finset.sum_congr rfl fun n _ => ?_
  rw [EReal.coe_mul, ← hC n, ← rowSign n]
  rfl

/-- The lane picked by comparing lane numbers: the sum keeps that lane alone. -/
theorem pick_lane (f : Fin 128 → EReal) (l : Fin 128) (w : BitVec 32) (hw : w = BitVec.ofNat 32 l.val) :
    ∑ x : Fin 128, Scalar.select (IntOp.cmpi .eq (BitVec.ofNat 32 x.val) w) (f x) 0 = f l := by
  subst hw
  rw [Finset.sum_eq_single l]
  · simp [Scalar.select, IntOp.cmpi]
  · intro x _ hx
    have : BitVec.ofNat 32 x.val ≠ BitVec.ofNat 32 l.val := by
      intro h
      have := congrArg BitVec.toNat h
      simp only [BitVec.toNat_ofNat] at this
      exact hx (Fin.ext (by omega))
    have hb : (BitVec.ofNat 32 x.val == BitVec.ofNat 32 l.val) = false := by simpa using this
    simp [Scalar.select, IntOp.cmpi, hb]
  · intro h; exact absurd (Finset.mem_univ _) h

/-- The spectrum at frequency `4096`, real part. -/
theorem last_re (hC : ∀ r (n : Fin 128), C (ix3 r n (lo 0)) = ((cR (u r) n 0 : ℝ) : EReal)) (r : Fin 64) (z : Fin 1) :
    k0_pay18 C (Scalar.select (Scalar.cmpi .eq 2#32 0#32) 1#32 2#32) k0_pay14 k0_pay15 k0_pay16 (ix2 r z)
      = ((specR (u r) 4096 : ℝ) : EReal) := by
  pointwise [k0_pay18]
  rw [pick_lane _ (lo 0) 0#32 rfl, alternating_apply (fun n => cR (u r) n 0) r (lo 0) (hC r), nyquist_re]

/-- The spectrum at frequency `4096`, imaginary part. -/
theorem last_im (hC : ∀ r (n : Fin 128), C (ix3 r n (hi 0)) = ((cI (u r) n 0 : ℝ) : EReal)) (r : Fin 64) (z : Fin 1) :
    k0_pay19 C (Scalar.select (Scalar.cmpi .eq 2#32 0#32) 1#32 2#32) k0_pay14 k0_pay15 k0_pay16 (ix2 r z)
      = ((specI (u r) 4096 : ℝ) : EReal) := by
  pointwise [k0_pay19]
  rw [pick_lane _ (hi 0) 64#32 rfl, alternating_apply (fun n => cI (u r) n 0) r (hi 0) (hC r), nyquist_im]

/-- The squared magnitude at frequency `4096`. -/
theorem last_pow (hr : ∀ r (n : Fin 128), C (ix3 r n (lo 0)) = ((cR (u r) n 0 : ℝ) : EReal))
    (hi' : ∀ r (n : Fin 128), C (ix3 r n (hi 0)) = ((cI (u r) n 0 : ℝ) : EReal)) (r : Fin 64) (z z' : Fin 1) :
    k0_pay20 C (Scalar.select (Scalar.cmpi .eq 2#32 0#32) 1#32 2#32) k0_pay14 k0_pay15 k0_pay16 (ix3 r z z')
      = ((pow2 (u r) 4096 : ℝ) : EReal) := by
  pointwise [k0_pay20]
  rw [last_re hr, last_im hi', ← EReal.coe_mul, ← EReal.coe_mul, ← EReal.coe_add, pow2]

end nyquist

/-- The squared magnitudes on the 64 by 128 grid: frequency `n + 64·l` on the lower lanes, `-1` on the upper. -/
def gridPow (v : ℕ → ℝ) (n : Fin 64) (l : Fin 128) : ℝ := if l.val < 64 then pow2 v (n + 64 * l) else -1

/-- The kernel's squared magnitudes. -/
theorem grid_apply {X Y : FVec Ideal S64x64x128 .f32}
    (hX : ∀ r n k, X (ix3 r n (lo k)) = ((specR (u r) (n + 64 * k) : ℝ) : EReal))
    (hY : ∀ r n k, Y (ix3 r n (lo k)) = ((specI (u r) (n + 64 * k) : ℝ) : EReal)) (r n : Fin 64) (l : Fin 128) :
    k0_pay22 X Y (ix3 r n l) = ((gridPow (u r) n l : ℝ) : EReal) := by
  pointwise [k0_pay22]
  have hs : IntOp.cmpi .slt (BitVec.ofNat 32 l.val) 64#32 = if l.val < 64 then 1#1 else 0#1 := by
    revert l; decide +kernel
  rw [hs, gridPow]
  by_cases h : l.val < 64
  · rw [if_pos h, if_pos h]
    have := hX r n ⟨l.val, h⟩
    have h' := hY r n ⟨l.val, h⟩
    simp only [Fin.eta] at this h'
    rw [this, h', ← EReal.coe_mul, ← EReal.coe_mul, ← EReal.coe_add, pow2]
    rfl
  · rw [if_neg h, if_neg h, word_neg_one]
    rfl

end Cert.Proof

end
-- ==== Proof.Inverse.lean ====
/- The kernel's inverse transform: the kept and weighted frequencies, the second-stage products by three multiplications,
   and the block it stores, which is the rebuilt signal. -/
module

public import proofs.«01_k».proof.Proof.Spectrum

@[expose] public section

noncomputable section

namespace Cert.Proof

open Cert.KernelIdeal Cert.KernelIdeal.Gen Idealize.ShloMosaic

/-- The frequency number of a grid entry, as a word. -/
theorem freq_word (k : Fin 64) (l : Fin 128) : k0_pay21 (ix3 0 k l) = BitVec.ofNat 32 (k.val + 64 * l.val) := by
  pointwise [k0_pay21]
  rw [BitVec.ofNat_add, BitVec.ofNat_mul]
  rfl

/-- Equality of small numbers, by their words. -/
theorem cmp_small (a b : ℕ) (ha : a < 2 ^ 32) (hb : b < 2 ^ 32) :
    IntOp.cmpi .eq (BitVec.ofNat 32 a) (BitVec.ofNat 32 b) = if a = b then 1#1 else 0#1 := by
  have h : (BitVec.ofNat 32 a == BitVec.ofNat 32 b) = decide (a = b) := by
    rw [Bool.eq_iff_iff, beq_iff_eq, decide_eq_true_eq]
    refine ⟨fun h => ?_, fun h => by rw [h]⟩
    have := congrArg BitVec.toNat h
    rwa [BitVec.toNat_ofNat, BitVec.toNat_ofNat, Nat.mod_eq_of_lt ha, Nat.mod_eq_of_lt hb] at this
  by_cases hab : a = b <;> simp [IntOp.cmpi, h, hab]

/-- The kept and weighted frequencies, one part: `s k` times its weight where the squared magnitude is at least `c`. -/
def kept (v s : ℕ → ℝ) (c : ℝ) (k1 l : ℕ) : ℝ :=
  if k1 + 64 * l < 4097 ∧ c ≤ pow2 v (k1 + 64 * l) then wt (k1 + 64 * l) * s (k1 + 64 * l) else 0

section keep

variable {X Y : FVec Ideal S64x64x128 .f32} {L M : FVec Ideal S64x1 .f32} {P : IVec S64x64x128 1} {Q : IVec S64x1x1 1}
  {v s : Fin 64 → ℕ → ℝ} {c : Fin 64 → ℝ}

/-- The array the inverse transform starts from, entry by entry. -/
theorem kept_scalar (hc : ∀ r, 0 ≤ c r) (hX : ∀ r n k, X (ix3 r n (lo k)) = ((s r (n + 64 * k) : ℝ) : EReal))
    (hL : ∀ r, L (ix2 r 0) = ((s r 4096 : ℝ) : EReal))
    (hP : ∀ r n l, P (ix3 r n l) = BitVec.ofBool (decide ((c r : EReal) ≤ ((gridPow (v r) n l : ℝ) : EReal))))
    (hQ : ∀ r, Q (ix3 r 0 0) = BitVec.ofBool (decide ((c r : EReal) ≤ ((pow2 (v r) 4096 : ℝ) : EReal)))) (r k : Fin 64) (l : Fin 128) :
    Scalar.select (P (ix3 r k l)) (X (ix3 r k l) * Scalar.select (IntOp.cmpi .eq (k0_pay21 (ix3 0 k l)) 0#32) 1
        (Ideal.ofBits .f32 0x40000000#32)) 0
      + Scalar.select (IntOp.andi (IntOp.cmpi .eq (k0_pay21 (ix3 0 k l)) 4096#32) (Q (ix3 r 0 0))) (L (ix2 r 0)) 0
      = ((kept (v r) (s r) (c r) k l : ℝ) : EReal) := by
  have e0 : IntOp.cmpi .eq (k0_pay21 (ix3 0 k l)) 0#32 = if k.val + 64 * l.val = 0 then 1#1 else 0#1 := by
    rw [freq_word]; exact cmp_small _ 0 (by omega) (by norm_num)
  have e1 : IntOp.cmpi .eq (k0_pay21 (ix3 0 k l)) 4096#32 = if k.val + 64 * l.val = 4096 then 1#1 else 0#1 := by
    rw [freq_word]; exact cmp_small _ 4096 (by omega) (by norm_num)
  rw [e0, e1, hP, hQ, hL, word_two]
  simp only [EReal.coe_le_coe_iff]
  unfold kept gridPow
  by_cases hl : l.val < 64
  · have h4 : ¬ k.val + 64 * l.val = 4096 := by omega
    have hX' := hX r k ⟨l.val, hl⟩
    simp only [Fin.eta] at hX'
    rw [if_pos hl, if_neg h4]
    have hlt : k.val + 64 * l.val < 4097 := by omega
    have hsel : Scalar.select (IntOp.andi 0#1 (BitVec.ofBool (decide (c r ≤ pow2 (v r) 4096)))) ((s r 4096 : ℝ) : EReal) 0 = 0 := by
      cases decide (c r ≤ pow2 (v r) 4096) <;> rfl
    rw [hsel, add_zero, show X (ix3 r k l) = ((s r (k + 64 * l) : ℝ) : EReal) from hX']
    by_cases hk : c r ≤ pow2 (v r) (k.val + 64 * l.val)
    · rw [if_pos (show k.val + 64 * l.val < 4097 ∧ c r ≤ pow2 (v r) (k.val + 64 * l.val) from ⟨hlt, hk⟩), decide_eq_true hk]
      by_cases h0 : k.val + 64 * l.val = 0
      · rw [if_pos h0, h0, wt, if_pos (Or.inl rfl), one_mul]
        show ((s r 0 : ℝ) : EReal) * 1 = _
        rw [mul_one]
      · rw [if_neg h0, wt, if_neg (by omega), mul_comm, EReal.coe_mul]
        rfl
    · rw [if_neg (show ¬(k.val + 64 * l.val < 4097 ∧ c r ≤ pow2 (v r) (k.val + 64 * l.val)) from fun h => hk h.2), decide_eq_false hk]
      rfl
  · have h0 : ¬ k.val + 64 * l.val = 0 := by omega
    rw [if_neg hl, decide_eq_false (by have := hc r; linarith)]
    have hsel : ∀ z : EReal, Scalar.select (BitVec.ofBool false) z 0 = 0 := fun z => rfl
    rw [hsel, zero_add]
    by_cases h4 : k.val + 64 * l.val = 4096
    · rw [if_pos h4, h4]
      by_cases hk : c r ≤ pow2 (v r) 4096
      · rw [if_pos ⟨by norm_num, hk⟩, decide_eq_true hk, wt, if_pos (Or.inr rfl), one_mul]
        rfl
      · rw [if_neg (fun h => hk h.2), decide_eq_false hk]
        rfl
    · rw [if_neg h4, if_neg (by omega)]
      cases decide (c r ≤ pow2 (v r) 4096) <;> rfl

/-- The real part the inverse transform starts from. -/
theorem kept_re (hc : ∀ r, 0 ≤ c r) (hX : ∀ r n k, X (ix3 r n (lo k)) = ((s r (n + 64 * k) : ℝ) : EReal))
    (hL : ∀ r, L (ix2 r 0) = ((s r 4096 : ℝ) : EReal))
    (hP : ∀ r n l, P (ix3 r n l) = BitVec.ofBool (decide ((c r : EReal) ≤ ((gridPow (v r) n l : ℝ) : EReal))))
    (hQ : ∀ r, Q (ix3 r 0 0) = BitVec.ofBool (decide ((c r : EReal) ≤ ((pow2 (v r) 4096 : ℝ) : EReal)))) (r k : Fin 64) (l : Fin 128) :
    k0_pay45 X L k0_pay21 P Q (k0_pay40 k0_pay21) (ix2 ⟨r.val * 64 + k.val, by omega⟩ l) = ((kept (v r) (s r) (c r) k l : ℝ) : EReal) := by
  pointwise [k0_pay45, k0_pay40, k0_pay41, k0_pay42]
  exact kept_scalar hc hX hL hP hQ r k l

/-- The imaginary part the inverse transform starts from. -/
theorem kept_im (hc : ∀ r, 0 ≤ c r) (hX : ∀ r n k, X (ix3 r n (lo k)) = ((s r (n + 64 * k) : ℝ) : EReal))
    (hL : ∀ r, L (ix2 r 0) = ((s r 4096 : ℝ) : EReal))
    (hP : ∀ r n l, P (ix3 r n l) = BitVec.ofBool (decide ((c r : EReal) ≤ ((gridPow (v r) n l : ℝ) : EReal))))
    (hQ : ∀ r, Q (ix3 r 0 0) = BitVec.ofBool (decide ((c r : EReal) ≤ ((pow2 (v r) 4096 : ℝ) : EReal)))) (r k : Fin 64) (l : Fin 128) :
    k0_pay46 X L k0_pay21 P Q (k0_pay40 k0_pay21) (ix2 ⟨r.val * 64 + k.val, by omega⟩ l) = ((kept (v r) (s r) (c r) k l : ℝ) : EReal) := by
  pointwise [k0_pay46, k0_pay40, k0_pay41, k0_pay42]
  exact kept_scalar hc hX hL hP hQ r k l

end keep

section gauss

variable {X Y : FVec Ideal S64x64x128 .f32} {L M : FVec Ideal S64x1 .f32} {K : IVec S1x64x128 32} {P : IVec S64x64x128 1}
  {Q : IVec S64x1x1 1} {Z : IVec S1x64x128 1} {w z : FVec Ideal S128x128 .f32} {p q : Fin 64 → ℕ → ℕ → ℝ}

/-- What the first inverse stage starts from. -/
structure Start (X Y : FVec Ideal S64x64x128 .f32) (L M : FVec Ideal S64x1 .f32) (K : IVec S1x64x128 32) (P : IVec S64x64x128 1)
    (Q : IVec S64x1x1 1) (Z : IVec S1x64x128 1) (w z : FVec Ideal S128x128 .f32) (p q : Fin 64 → ℕ → ℕ → ℝ) : Prop where
  /-- real part -/
  re : ∀ (r k : Fin 64) (l : Fin 128), k0_pay45 X L K P Q Z (ix2 ⟨r.val * 64 + k.val, by omega⟩ l) = ((p r k l : ℝ) : EReal)
  /-- imaginary part -/
  im : ∀ (r k : Fin 64) (l : Fin 128), k0_pay46 Y M K P Q Z (ix2 ⟨r.val * 64 + k.val, by omega⟩ l) = ((q r k l : ℝ) : EReal)
  /-- cosines -/
  cos : ∀ a b : Fin 128, w (ix2 a b) = ((Real.cos (ang 128 (a * b)) : ℝ) : EReal)
  /-- sines -/
  sin : ∀ a b : Fin 128, z (ix2 a b) = ((Real.sin (ang 128 (a * b)) : ℝ) : EReal)

/-- The first product: real part times cosines. -/
theorem product_re (h : Start X Y L M K P Q Z w z p q) (r k : Fin 64) (n : Fin 128) :
    k0_pay47 w X L K P Q Z (ix2 ⟨r.val * 64 + k.val, by omega⟩ n)
      = ((∑ l : Fin 128, p r k l * Real.cos (ang 128 (l * n)) : ℝ) : EReal) := by
  pointwise [k0_pay47]
  simp only [h.re, h.cos, ← EReal.coe_mul, coe_sum]

/-- The second product: the negated imaginary part times sines. -/
theorem product_im (h : Start X Y L M K P Q Z w z p q) (r k : Fin 64) (n : Fin 128) :
    k0_pay48 z Y M K P Q Z (ix2 ⟨r.val * 64 + k.val, by omega⟩ n)
      = ((-∑ l : Fin 128, q r k l * Real.sin (ang 128 (l * n)) : ℝ) : EReal) := by
  pointwise [k0_pay48]
  simp only [h.im, h.sin, ← EReal.coe_mul, coe_sum, EReal.coe_neg, zero_sub]

/-- The third product: the sum of the parts times the difference of the tables. -/
theorem product_mix (h : Start X Y L M K P Q Z w z p q) (r k : Fin 64) (n : Fin 128) :
    k0_pay49 w z X Y L M K P Q Z (ix2 ⟨r.val * 64 + k.val, by omega⟩ n)
      = ((∑ l : Fin 128, (p r k l + q r k l) * (Real.cos (ang 128 (l * n)) - Real.sin (ang 128 (l * n))) : ℝ) : EReal) := by
  pointwise [k0_pay49]
  simp only [h.re, h.im, h.cos, h.sin, ← EReal.coe_mul, ← EReal.coe_add, ← EReal.coe_sub, coe_sum]

/-- The first inverse stage, real part. -/
theorem stage_re (h : Start X Y L M K P Q Z w z p q) (r k : Fin 64) (n : Fin 128) :
    k0_pay50 w z X Y L M K P Q Z (ix2 ⟨r.val * 64 + k.val, by omega⟩ n) = ((dR (p r) (q r) k n : ℝ) : EReal) := by
  pointwise [k0_pay50]
  rw [product_re h, product_im h, ← EReal.coe_sub, sub_neg_eq_add, dR]

/-- The first inverse stage, imaginary part: the third product less the other two. -/
theorem stage_im (h : Start X Y L M K P Q Z w z p q) (r k : Fin 64) (n : Fin 128) :
    k0_pay49 w z X Y L M K P Q Z (ix2 ⟨r.val * 64 + k.val, by omega⟩ n) - k0_pay47 w X L K P Q Z (ix2 ⟨r.val * 64 + k.val, by omega⟩ n)
      - k0_pay48 z Y M K P Q Z (ix2 ⟨r.val * 64 + k.val, by omega⟩ n) = ((dI (p r) (q r) k n : ℝ) : EReal) := by
  rw [product_re h, product_im h, product_mix h, ← EReal.coe_sub, ← EReal.coe_sub, dI]
  congr 1
  simp only [add_mul, mul_sub, Finset.sum_add_distrib, Finset.sum_sub_distrib]
  ring

/-- The block the kernel stores, at channel `r` and sample `128·n1 + n2`. -/
theorem stored_apply (h : Start X Y L M K P Q Z w z p q) {a b : FVec Ideal S64x64 .f32} {c d : FVec Ideal S64x128 .f32}
    (ha : ∀ x y : Fin 64, a (ix2 x y) = ((Real.cos (ang 64 (x * y)) : ℝ) : EReal))
    (hb : ∀ x y : Fin 64, b (ix2 x y) = ((Real.sin (ang 64 (x * y)) : ℝ) : EReal))
    (hc : ∀ (x : Fin 64) (y : Fin 128), c (ix2 x y) = ((Real.cos (ang 8192 (x * y)) : ℝ) : EReal))
    (hd : ∀ (x : Fin 64) (y : Fin 128), d (ix2 x y) = ((Real.sin (ang 8192 (x * y)) : ℝ) : EReal))
    (r n1 : Fin 64) (n2 : Fin 128) :
    k0_pay1 a b c d (k0_pay47 w X L K P Q Z) (k0_pay48 z Y M K P Q Z) (k0_pay49 w z X Y L M K P Q Z) (k0_pay50 w z X Y L M K P Q Z)
        (ix3 0 r ⟨n1.val * 128 + n2.val, by omega⟩)
      = ((((∑ k1 : Fin 64, (dR (p r) (q r) k1 n2 * Real.cos (ang 8192 (k1 * n2)) + dI (p r) (q r) k1 n2 * Real.sin (ang 8192 (k1 * n2)))
            * Real.cos (ang 64 (k1 * n1)))
          + ∑ k1 : Fin 64, (dI (p r) (q r) k1 n2 * Real.cos (ang 8192 (k1 * n2)) - dR (p r) (q r) k1 n2 * Real.sin (ang 8192 (k1 * n2)))
            * Real.sin (ang 64 (k1 * n1))) * (1 / 8192) : ℝ) : EReal) := by
  pointwise [k0_pay1]
  simp only [stage_im h, stage_re h, ha, hb, hc, hd, word_inv_8192, ← EReal.coe_mul, ← EReal.coe_add, ← EReal.coe_sub, coe_sum]

end gauss

end Cert.Proof

end
-- ==== Proof.Peaks.lean ====
/- Picking the largest values by repeated masking, over the extended reals: the maximum of a family and one extra value,
   then the same after every value equal to the maximum has been replaced by `-2`, and so on. When the nine largest
   values are distinct and not negative, the eight maxima found are exactly the eight largest values.
   Nothing here mentions the program. -/
module

public import Mathlib.Data.EReal.Operations
public import Mathlib.Data.Finset.Fold
public import Mathlib.Data.Fintype.Basic
public import Mathlib.Data.Fintype.Prod
public import Mathlib.Order.Lattice

@[expose] public section

noncomputable section

namespace Cert.Proof

/-- The largest of a finite family and one extra value. -/
def peak {ι : Type} [Fintype ι] (f : ι → EReal) (a : EReal) : EReal := max (Finset.fold max ⊥ f Finset.univ) a

/-- Every value above `t` replaced by `-2`. -/
def cutAbove (t : EReal) (a : EReal) : EReal := if t < a then -2 else a

/-- The maximum is the one value that is attained and bounds all others. -/
theorem peak_eq {ι : Type} [Fintype ι] (f : ι → EReal) (a t : EReal) (hf : ∀ i, f i ≤ t) (ha : a ≤ t)
    (hatt : (∃ i, f i = t) ∨ a = t) : peak f a = t := by
  unfold peak
  apply le_antisymm
  · refine max_le (Finset.fold_max_le _ |>.2 ⟨bot_le, fun i _ => hf i⟩) ha
  · rcases hatt with ⟨i, hi⟩ | h
    · exact le_max_of_le_left (Finset.le_fold_max _ |>.2 (.inr ⟨i, Finset.mem_univ i, hi.ge⟩))
    · exact le_max_of_le_right h.ge

/-- After the values above `t` are replaced, the maximum is `t`, when `t` is a value and not below `-2`. -/
theorem peak_cutAbove {ι : Type} [Fintype ι] (f : ι → EReal) (a t : EReal) (ht : -2 ≤ t)
    (hatt : (∃ i, f i = t) ∨ a = t) : peak (fun i => cutAbove t (f i)) (cutAbove t a) = t := by
  have hle : ∀ b, cutAbove t b ≤ t := by
    intro b
    unfold cutAbove
    split_ifs with h
    · exact ht
    · exact not_lt.1 h
  refine peak_eq _ _ _ (fun i => hle _) (hle _) ?_
  rcases hatt with ⟨i, hi⟩ | h
  · exact .inl ⟨i, by rw [hi, cutAbove, if_neg (lt_irrefl _)]⟩
  · exact .inr (by rw [h, cutAbove, if_neg (lt_irrefl _)])

/-- Replacing the value `t` as well, when no value lies strictly between `t'` and `t`, cuts above `t'`. -/
theorem cutAbove_step (t t' a : EReal) (ht : -2 < t) (htt : t' < t) (hgap : t ≤ a ∨ a ≤ t') :
    (if cutAbove t a = t then -2 else cutAbove t a) = cutAbove t' a := by
  unfold cutAbove
  by_cases h1 : t < a
  · rw [if_pos h1, if_neg (ne_of_lt ht), if_pos (htt.trans h1)]
  · rw [if_neg h1]
    rcases hgap with h | h
    · have : a = t := le_antisymm (not_lt.1 h1) h
      rw [if_pos this, this, if_pos htt]
    · rw [if_neg (ne_of_lt (lt_of_le_of_lt h htt)), if_neg (not_lt.2 h)]

/-- A family bounded by `t` is not changed by cutting above `t`. -/
theorem cutAbove_of_le (t a : EReal) (h : a ≤ t) : cutAbove t a = a := if_neg (not_lt.2 h)

/-- What the nine largest values `t 0 > t 1 > … > t 8 ≥ 0` of a family and one extra value satisfy. -/
structure Nine {ι : Type} (f : ι → EReal) (a : EReal) (t : ℕ → EReal) : Prop where
  /-- the values descend -/
  desc : ∀ j, j < 8 → t (j + 1) < t j
  /-- none is negative -/
  nonneg : ∀ j, j ≤ 8 → 0 ≤ t j
  /-- each is a value of the family -/
  att : ∀ j, j ≤ 8 → (∃ i, f i = t j) ∨ a = t j
  /-- the first bounds the family -/
  top : ∀ i, f i ≤ t 0
  /-- the first bounds the extra value -/
  topA : a ≤ t 0
  /-- no value of the family between two of them -/
  gap : ∀ j, j < 8 → ∀ i, t j ≤ f i ∨ f i ≤ t (j + 1)
  /-- nor is the extra value -/
  gapA : ∀ j, j < 8 → t j ≤ a ∨ a ≤ t (j + 1)

variable {ι : Type} [Fintype ι] {f : ι → EReal} {a : EReal} {t : ℕ → EReal}

/-- `-2` is below every nonnegative value. -/
theorem neg_two_lt (b : EReal) (h : 0 ≤ b) : (-2 : EReal) < b :=
  lt_of_lt_of_le (by
    have : (-2 : EReal) = ((-2 : ℝ) : EReal) := by rw [EReal.coe_neg]; rfl
    rw [this, ← EReal.coe_zero, EReal.coe_lt_coe_iff]; norm_num) h

/-- Round `j`'s maximum, of the values masked so far, is the `j`-th largest. -/
theorem Nine.max (h : Nine f a t) (j : ℕ) (hj : j ≤ 8) : peak (fun i => cutAbove (t j) (f i)) (cutAbove (t j) a) = t j :=
  peak_cutAbove f a (t j) (neg_two_lt _ (h.nonneg j hj)).le (h.att j hj)

/-- Round `j`'s masking of the family. -/
theorem Nine.mask (h : Nine f a t) (j : ℕ) (hj : j < 8) (i : ι) :
    (if cutAbove (t j) (f i) = t j then -2 else cutAbove (t j) (f i)) = cutAbove (t (j + 1)) (f i) :=
  cutAbove_step _ _ _ (neg_two_lt _ (h.nonneg j hj.le)) (h.desc j hj) (h.gap j hj i)

/-- Round `j`'s masking of the extra value. -/
theorem Nine.maskA (h : Nine f a t) (j : ℕ) (hj : j < 8) :
    (if cutAbove (t j) a = t j then -2 else cutAbove (t j) a) = cutAbove (t (j + 1)) a :=
  cutAbove_step _ _ _ (neg_two_lt _ (h.nonneg j hj.le)) (h.desc j hj) (h.gapA j hj)

/-- Before the first round nothing is masked: the family. -/
theorem Nine.start (h : Nine f a t) (i : ι) : f i = cutAbove (t 0) (f i) := (cutAbove_of_le _ _ (h.top i)).symm

/-- Before the first round nothing is masked: the extra value. -/
theorem Nine.startA (h : Nine f a t) : a = cutAbove (t 0) a := (cutAbove_of_le _ _ h.topA).symm

end Cert.Proof

end
-- ==== Proof.Select.lean ====
/- The kernel's selection of the eight largest squared magnitudes: one round of taking the maximum and masking it, eight
   rounds of it, and the threshold formed from the eighth and the ninth maximum. -/
module

public import proofs.«01_k».proof.Proof.Gen.KernelIdeal.Skeleton
public import Idealize.ShloMosaic.Lib.Pointwise
public import proofs.«01_k».proof.Proof.Consts
public import proofs.«01_k».proof.Proof.Peaks

@[expose] public section

noncomputable section

namespace Cert.Proof

open Cert.KernelIdeal Cert.KernelIdeal.Gen Idealize.ShloMosaic

variable {A : FVec Ideal S64x1x1 .f32} {B : FVec Ideal S64x64x128 .f32} {r : Fin 64}
  {f : Fin 64 × Fin 128 → EReal} {a : EReal} {t : ℕ → EReal}

/-- The mask's value is `-2`. -/
theorem word_mask : Ideal.ofBits .f32 0xC0000000#32 = (-2 : EReal) := by
  rw [word_neg_two, EReal.coe_neg]; rfl

/-- One round's maximum. -/
theorem round_max (A : FVec Ideal S64x1x1 .f32) (B : FVec Ideal S64x64x128 .f32) (r : Fin 64) :
    k0_pay23 A B (ix3 r 0 0) = peak (fun i : Fin 64 × Fin 128 => B (ix3 r i.1 i.2)) (A (ix3 r 0 0)) := by
  pointwise [k0_pay23]
  rw [word_bot]
  rfl

/-- One round's masking of the grid. -/
theorem round_mask (A : FVec Ideal S64x1x1 .f32) (B : FVec Ideal S64x64x128 .f32) (r n : Fin 64) (l : Fin 128) :
    k0_pay24 A B (ix3 r n l) = if B (ix3 r n l) = k0_pay23 A B (ix3 r 0 0) then -2 else B (ix3 r n l) := by
  pointwise [k0_pay24]
  rw [word_mask]

/-- One round's masking of the value at frequency `4096`. -/
theorem round_maskA (A : FVec Ideal S64x1x1 .f32) (B : FVec Ideal S64x64x128 .f32) (r : Fin 64) :
    k0_pay25 A B (ix3 r 0 0) = if A (ix3 r 0 0) = k0_pay23 A B (ix3 r 0 0) then -2 else A (ix3 r 0 0) := by
  pointwise [k0_pay25]
  rw [word_mask]

/-- After `j` rounds, row `r` of the grid and of the extra column hold the values with those above `t j` masked. -/
def Masked (A : FVec Ideal S64x1x1 .f32) (B : FVec Ideal S64x64x128 .f32) (r : Fin 64) (f : Fin 64 × Fin 128 → EReal) (a : EReal)
    (t : ℕ → EReal) (j : ℕ) : Prop :=
  (∀ i : Fin 64 × Fin 128, B (ix3 r i.1 i.2) = cutAbove (t j) (f i)) ∧ A (ix3 r 0 0) = cutAbove (t j) a

/-- Round `j` finds the `j`-th largest value. -/
theorem Masked.top {j : ℕ} (h : Masked A B r f a t j) (hn : Nine f a t) (hj : j ≤ 8) : k0_pay23 A B (ix3 r 0 0) = t j := by
  rw [round_max, h.2, funext h.1, hn.max j hj]

/-- Round `j` masks it. -/
theorem Masked.next {j : ℕ} (h : Masked A B r f a t j) (hn : Nine f a t) (hj : j < 8) :
    Masked (k0_pay25 A B) (k0_pay24 A B) r f a t (j + 1) := by
  refine ⟨fun i => ?_, ?_⟩
  · rw [round_mask, h.top hn hj.le, h.1]
    exact hn.mask j hj i
  · rw [round_maskA, h.top hn hj.le, h.2]
    exact hn.maskA j hj

/-- The two columns and the grid after one round. -/
abbrev nextA (p : FVec Ideal S64x1x1 .f32 × FVec Ideal S64x64x128 .f32) : FVec Ideal S64x1x1 .f32 × FVec Ideal S64x64x128 .f32 :=
  (k0_pay25 p.1 p.2, k0_pay24 p.1 p.2)

/-- After `j ≤ 8` rounds. -/
theorem Masked.iterate (h : Masked A B r f a t 0) (hn : Nine f a t) :
    ∀ j, j ≤ 8 → Masked (nextA^[j] (A, B)).1 (nextA^[j] (A, B)).2 r f a t j
  | 0, _ => h
  | j + 1, hj => by
      rw [Function.iterate_succ_apply']
      exact (Masked.iterate h hn j (by omega)).next hn (by omega)

/-- Half the maximum of one round plus half the maximum of the next. -/
def halves (p : FVec Ideal S64x1x1 .f32 × FVec Ideal S64x64x128 .f32) : FVec Ideal S64x1x1 .f32 :=
  addf (mulf (broadcast S64x1x1 (Scalar.ofBits .f32 0x3F000000#32)) (k0_pay23 p.1 p.2))
    (mulf (broadcast S64x1x1 (Scalar.ofBits .f32 0x3F000000#32)) (k0_pay23 (k0_pay25 p.1 p.2) (k0_pay24 p.1 p.2)))

/-- The last five rounds, from the column before the fifth masking and the grid after it. -/
theorem last_rounds (A M : FVec Ideal S64x1x1 .f32) (B : FVec Ideal S64x64x128 .f32) :
    k0_pay37 A M B = halves (nextA (nextA (select (cmpf .oeq A M) (broadcast S64x1x1 (Scalar.ofBits .f32 0xC0000000#32)) A, B))) := by
  rfl

/-- The first rounds' columns and grids are the rounds. -/
theorem first_rounds (A : FVec Ideal S64x1x1 .f32) (B : FVec Ideal S64x64x128 .f32) :
    (k0_pay28 A B, k0_pay27 A B) = nextA (nextA (A, B)) ∧ (k0_pay31 A B, k0_pay30 A B) = nextA (k0_pay28 A B, k0_pay27 A B)
      ∧ (k0_pay34 A B, k0_pay33 A B) = nextA (k0_pay31 A B, k0_pay30 A B)
      ∧ k0_pay35 A B = k0_pay23 (k0_pay34 A B) (k0_pay33 A B) ∧ k0_pay36 A B = k0_pay24 (k0_pay34 A B) (k0_pay33 A B) :=
  ⟨rfl, rfl, rfl, rfl, rfl⟩

/-- The program's threshold, in terms of the rounds. -/
theorem threshold_rounds (A : FVec Ideal S64x1x1 .f32) (B : FVec Ideal S64x64x128 .f32) :
    k0_pay37 (k0_pay34 A B) (k0_pay35 A B) (k0_pay36 A B) = halves (nextA^[7] (A, B)) := by
  obtain ⟨h1, h2, h3, h4, h5⟩ := first_rounds A B
  rw [last_rounds, h4, h5]
  have h6 : (select (cmpf .oeq (k0_pay34 A B) (k0_pay23 (k0_pay34 A B) (k0_pay33 A B)))
      (broadcast S64x1x1 (Scalar.ofBits .f32 0xC0000000#32)) (k0_pay34 A B), k0_pay24 (k0_pay34 A B) (k0_pay33 A B))
      = nextA (k0_pay34 A B, k0_pay33 A B) := rfl
  rw [h6, h3, h2, h1]
  simp only [Function.iterate_succ_apply', Function.iterate_zero_apply]

/-- The threshold lies half-way between the eighth and the ninth largest value. -/
theorem threshold_eq (h : Masked A B r f a t 0) (hn : Nine f a t) :
    k0_pay37 (k0_pay34 A B) (k0_pay35 A B) (k0_pay36 A B) (ix3 r 0 0)
      = ((1 / 2 : ℝ) : EReal) * t 7 + ((1 / 2 : ℝ) : EReal) * t 8 := by
  have h8 := (h.iterate hn 8 le_rfl).top hn le_rfl
  rw [Function.iterate_succ_apply'] at h8
  rw [threshold_rounds]
  pointwise [halves]
  rw [(h.iterate hn 7 (by norm_num)).top hn (by norm_num), h8, word_half]

/-- A value of the family is above the half-way point exactly when it is at least the eighth largest. -/
theorem above_half {b : EReal} {s7 s8 : ℝ} (hd : s8 < s7) (hb : (s7 : EReal) ≤ b ∨ b ≤ (s8 : EReal)) :
    ((1 / 2 : ℝ) : EReal) * (s7 : EReal) + ((1 / 2 : ℝ) : EReal) * (s8 : EReal) < b ↔ (s7 : EReal) ≤ b := by
  rw [← EReal.coe_mul, ← EReal.coe_mul, ← EReal.coe_add]
  constructor
  · intro h
    rcases hb with hb | hb
    · exact hb
    · have := EReal.coe_lt_coe_iff.1 (h.trans_le hb)
      linarith
  · intro h
    exact lt_of_lt_of_le (EReal.coe_lt_coe_iff.2 (by linarith)) h

/-- The kept entries of the grid: those at least the eighth largest. -/
theorem keep_grid {s : ℕ → ℝ} (hB : ∀ i : Fin 64 × Fin 128, B (ix3 r i.1 i.2) = f i) (hA : A (ix3 r 0 0) = a)
    (hn : Nine f a (fun j => (s j : EReal))) (n : Fin 64) (l : Fin 128) :
    k0_pay38 B (k0_pay34 A B) (k0_pay35 A B) (k0_pay36 A B) (ix3 r n l)
      = BitVec.ofBool (decide ((s 7 : EReal) ≤ f (n, l))) := by
  have h0 : Masked A B r f a (fun j => (s j : EReal)) 0 :=
    ⟨fun i => (hB i).trans (hn.start i), hA.trans hn.startA⟩
  pointwise [k0_pay38]
  rw [threshold_eq h0 hn, hB (n, l)]
  congr 1
  exact decide_eq_decide.2 (above_half (EReal.coe_lt_coe_iff.1 (hn.desc 7 (by norm_num))) (hn.gap 7 (by norm_num) (n, l)))

/-- The value at frequency `4096` is kept exactly when it is at least the eighth largest. -/
theorem keep_last {s : ℕ → ℝ} (hB : ∀ i : Fin 64 × Fin 128, B (ix3 r i.1 i.2) = f i) (hA : A (ix3 r 0 0) = a)
    (hn : Nine f a (fun j => (s j : EReal))) :
    k0_pay39 A (k0_pay34 A B) (k0_pay35 A B) (k0_pay36 A B) (ix3 r 0 0)
      = BitVec.ofBool (decide ((s 7 : EReal) ≤ a)) := by
  have h0 : Masked A B r f a (fun j => (s j : EReal)) 0 :=
    ⟨fun i => (hB i).trans (hn.start i), hA.trans hn.startA⟩
  pointwise [k0_pay39]
  rw [threshold_eq h0 hn, hA]
  congr 1
  exact decide_eq_decide.2 (above_half (EReal.coe_lt_coe_iff.1 (hn.desc 7 (by norm_num))) (hn.gapA 7 (by norm_num)))

end Cert.Proof

end
-- ==== Proof.Block.lean ====
/- One block of the kernel's result, from what its windows hold: at every channel and sample, the signal rebuilt from the
   frequencies whose squared magnitude is at least the eighth largest, divided by `8192`. -/
module

public import proofs.«01_k».proof.Proof.Gen.KernelIdeal.Value
public import proofs.«01_k».proof.Proof.Inverse
public import proofs.«01_k».proof.Proof.Select

@[expose] public section

noncomputable section

namespace Cert.Proof

open Cert.KernelIdeal Cert.KernelIdeal.Gen Idealize.ShloMosaic

/-- What the table windows hold. -/
structure Tables (x4 x5 : Vec Ideal S128x128 .f32) (x6 x7 x8 : Vec Ideal S64x128 .f32) (x9 x10 x11 : Vec Ideal S128x128 .f32)
    (x12 x13 : Vec Ideal S64x64 .f32) : Prop where
  /-- cosines of length 128 -/
  w128r : ∀ a b : Fin 128, x4 (ix2 a b) = ((Real.cos (ang 128 (a * b)) : ℝ) : EReal)
  /-- sines of length 128 -/
  w128i : ∀ a b : Fin 128, x5 (ix2 a b) = ((Real.sin (ang 128 (a * b)) : ℝ) : EReal)
  /-- inverse twiddle, cosines -/
  t2r : ∀ (a : Fin 64) (b : Fin 128), x6 (ix2 a b) = ((Real.cos (ang 8192 (a * b)) : ℝ) : EReal)
  /-- inverse twiddle, sines -/
  t2i : ∀ (a : Fin 64) (b : Fin 128), x7 (ix2 a b) = ((Real.sin (ang 8192 (a * b)) : ℝ) : EReal)
  /-- first stage, lower half -/
  w64lo : ∀ a k : Fin 64, x8 (ix2 a (lo k)) = ((Real.cos (ang 64 (a * k)) : ℝ) : EReal)
  /-- first stage, upper half -/
  w64hi : ∀ a k : Fin 64, x8 (ix2 a (hi k)) = ((Real.sin (ang 64 (a * k)) : ℝ) : EReal)
  /-- forward twiddle -/
  twiddle : Twiddle x9 x10
  /-- second stage -/
  half : Half x11
  /-- cosines of length 64 -/
  w64r : ∀ a b : Fin 64, x12 (ix2 a b) = ((Real.cos (ang 64 (a * b)) : ℝ) : EReal)
  /-- sines of length 64 -/
  w64i : ∀ a b : Fin 64, x13 (ix2 a b) = ((Real.sin (ang 64 (a * b)) : ℝ) : EReal)

/-- Zero offsets, of three axes. -/
theorem zeros3 : (![0, 0, 0] : Fin 3 → Nat) = fun _ => 0 := funext fun a => by fin_cases a <;> rfl

/-- Zero offsets, of two axes. -/
theorem zeros2 : (![0, 0] : Fin 2 → Nat) = fun _ => 0 := funext fun a => by fin_cases a <;> rfl

/-- Re-laying a table as itself changes nothing. -/
theorem relaid (x4 x5 : Vec Ideal S128x128 .f32) (x6 x7 : Vec Ideal S64x128 .f32) (x12 x13 : Vec Ideal S64x64 .f32) :
    k0_pay4 x4 = x4 ∧ k0_pay5 x5 = x5 ∧ k0_pay43 x6 = x6 ∧ k0_pay44 x7 = x7 ∧ k0_pay2 x12 = x12 ∧ k0_pay3 x13 = x13 := by
  unfold k0_pay4 k0_pay5 k0_pay43 k0_pay44 k0_pay2 k0_pay3
  simp only [shapeCast_self, and_self]

section block

variable {x0 : Vec Ideal S1x64x8192 .f32} {x1 : Vec Ideal S1x1x256 .f32} {x2 : Vec Ideal S64x256 .f32} {x3 : Vec Ideal S1x1x64 .f32}
  {x4 x5 : Vec Ideal S128x128 .f32} {x6 x7 x8 : Vec Ideal S64x128 .f32} {x9 x10 x11 : Vec Ideal S128x128 .f32}
  {x12 x13 : Vec Ideal S64x64 .f32} {s : Fin 64 → ℕ → ℝ} {g : Fin 64 → ℝ} {t : Fin 64 → ℕ → ℝ}

/-- The first stage and its exchanged copy, of the block's samples. -/
theorem block_first (hx : ∀ r (n : Fin 8192), x0 (ix3 0 r n) = ((s r n : ℝ) : EReal))
    (hg : ∀ r, 1 + Ideal.tanh (∑ j, x1 (ix3 0 0 j) * x2 (ix2 r j) + x3 (ix3 0 0 r)) = ((g r : ℝ) : EReal))
    (hT : Tables x4 x5 x6 x7 x8 x9 x10 x11 x12 x13) :
    First (fun r n => s r n * g r) (k0_pay6 x1 x2 x3 x0 x8) (k0_pay7 x1 x2 x3 x0 x8) := by
  have hlo : ∀ r (n : Fin 128) (k : Fin 64),
      k0_pay6 x1 x2 x3 x0 x8 (ix3 r n (lo k)) = ((bR (fun n => s r n * g r) n k : ℝ) : EReal) := fun r n k =>
    first_apply hx hg (v := fun a => Real.cos (ang 64 (a * k))) r n (lo k) fun a => hT.w64lo a k
  have hhi : ∀ r (n : Fin 128) (k : Fin 64),
      k0_pay6 x1 x2 x3 x0 x8 (ix3 r n (hi k)) = ((bI (fun n => s r n * g r) n k : ℝ) : EReal) := fun r n k =>
    first_apply hx hg (v := fun a => Real.sin (ang 64 (a * k))) r n (hi k) fun a => hT.w64hi a k
  exact ⟨hlo, hhi, fun r n k => (first_swap_lo r n k).trans (hhi r n k), fun r n k => (first_swap_hi r n k).trans (hlo r n k)⟩

/-- The block's stored value. -/
theorem block_value (hx : ∀ r (n : Fin 8192), x0 (ix3 0 r n) = ((s r n : ℝ) : EReal))
    (hg : ∀ r, 1 + Ideal.tanh (∑ j, x1 (ix3 0 0 j) * x2 (ix2 r j) + x3 (ix3 0 0 r)) = ((g r : ℝ) : EReal))
    (hT : Tables x4 x5 x6 x7 x8 x9 x10 x11 x12 x13)
    (hn : ∀ r, Nine (fun i : Fin 64 × Fin 128 => ((gridPow (fun n => s r n * g r) i.1 i.2 : ℝ) : EReal))
      ((pow2 (fun n => s r n * g r) 4096 : ℝ) : EReal) (fun j => ((t r j : ℝ) : EReal)))
    (r n1 : Fin 64) (n2 : Fin 128) :
    (out0_14 x0 x1 x2 x3 x4 x5 x6 x7 x8 x9 x10 x11 x12 x13 : S1x64x8192.Idx → EReal) (ix3 0 r ⟨n1.val * 128 + n2.val, by omega⟩)
      = ((rebuilt (fun n => s r n * g r) (fun k => t r 7 ≤ pow2 (fun n => s r n * g r) k) (n1.val * 128 + n2.val) * (1 / 8192) : ℝ) : EReal) := by
  obtain ⟨e4, e5, e6, e7, e12, e13⟩ := relaid x4 x5 x6 x7 x12 x13
  unfold_out out0_14
  simp only [r0_0, r0_1, r0_2, r0_3, r0_4, r0_5, r0_6]
  rw [View.canon_unit_zero zeros3]
  simp only [View.ld_unit_zero (S := S1x1x256) zeros3, View.ld_unit_zero (S := S64x256) zeros2, View.ld_unit_zero (S := S1x1x64) zeros3,
    View.ld_unit_zero (S := S1x64x8192) zeros3, View.ld_unit_zero (S := S64x64) zeros2, View.ld_unit_zero (S := S128x128) zeros2,
    View.ld_unit_zero (S := S64x128) zeros2, e4, e5, e6, e7, e12, e13]
  have hF := block_first hx hg hT
  generalize k0_pay6 x1 x2 x3 x0 x8 = A at hF ⊢
  generalize k0_pay7 x1 x2 x3 x0 x8 = B at hF ⊢
  have hre := spectrum_re hF hT.twiddle hT.half
  have him := spectrum_im hF hT.twiddle hT.half
  have hcr := fun r n => twiddled_re hF hT.twiddle r n 0
  have hci := fun r n => twiddled_im hF hT.twiddle r n 0
  have hlr := fun r => last_re hcr r 0
  have hli := fun r => last_im hci r 0
  have hlp := fun r => last_pow hcr hci r 0 0
  have hgp := grid_apply hre him
  generalize k0_pay12 A B x9 x10 x11 x11 = X at hre hgp ⊢
  generalize k0_pay13 A B x9 x10 x11 x11 = Y at him hgp ⊢
  generalize k0_pay8 A B x9 x10 = C at hlr hli hlp ⊢
  generalize k0_pay18 C _ _ _ _ = L at hlr ⊢
  generalize k0_pay19 C _ _ _ _ = M at hli ⊢
  generalize k0_pay20 C _ _ _ _ = D at hlp ⊢
  generalize k0_pay22 X Y = G at hgp ⊢
  have hkg := fun r n l => keep_grid (fun i => hgp r i.1 i.2) (hlp r) (hn r) n l
  have hkl := fun r => keep_last (fun i => hgp r i.1 i.2) (hlp r) (hn r)
  have h7 : ∀ r, 0 ≤ t r 7 := fun r => by
    have := (hn r).nonneg 7 (by norm_num)
    rwa [← EReal.coe_zero, EReal.coe_le_coe_iff] at this
  have hS : Start X Y L M k0_pay21 (k0_pay38 G (k0_pay34 D G) (k0_pay35 D G) (k0_pay36 D G))
      (k0_pay39 D (k0_pay34 D G) (k0_pay35 D G) (k0_pay36 D G)) (k0_pay40 k0_pay21) x4 x5
      (fun r => kept (fun n => s r n * g r) (specR (fun n => s r n * g r)) (t r 7))
      (fun r => kept (fun n => s r n * g r) (specI (fun n => s r n * g r)) (t r 7)) :=
    ⟨fun r k l => kept_re (v := fun r n => s r n * g r) (s := fun r => specR (fun n => s r n * g r)) (c := fun r => t r 7) h7 hre hlr hkg hkl r k l,
      fun r k l => kept_im (v := fun r n => s r n * g r) (s := fun r => specI (fun n => s r n * g r)) (c := fun r => t r 7) h7 him hli hkg hkl r k l,
      hT.w128r, hT.w128i⟩
  rw [stored_apply hS hT.w64r hT.w64i hT.t2r hT.t2i,
    inverse_rebuilt (fun n => s r n * g r) (fun k => t r 7 ≤ pow2 (fun n => s r n * g r) k) _ _ (fun _ _ => rfl) (fun _ _ => rfl)]

end block

end Cert.Proof

end
-- ==== Proof.Order.lean ====
/- The stable descending order of finitely many reals, and the nine greatest of the 4097 squared magnitudes of a
   spectrum: when their order is strict, they are nine values as the repeated masking asks for, and the eight
   greatest are the frequencies whose squared magnitude is at least the eighth value. -/
module

public import Idealize.ShloMosaic.Lib.Pointwise
public import Idealize.ShloMosaic.Lib.SortFacts
public import proofs.«01_k».proof.Proof.Peaks
public import proofs.«01_k».proof.Proof.Spectrum

@[expose] public section

noncomputable section

namespace Cert.Proof

open Idealize.ShloMosaic

/-- Position `j` of the stable descending order of `a`. -/
def rank {n : ℕ} (a : Fin n → ℝ) (j : Fin n) : Fin n := sortedFrom (fun k k' => decide (a k' < a k)) j

/-- The order is descending. -/
theorem rank_le {n : ℕ} (a : Fin n → ℝ) {i j : Fin n} (h : i ≤ j) : a (rank a j) ≤ a (rank a i) := by
  rcases h.eq_or_lt with rfl | h
  · exact le_refl _
  · have := sortedFrom_noInversion (fun k k' => decide (a k' < a k)) (fun k k' => decide (a k' < a k))
      (fun x y hxy => decide_eq_false (lt_asymm (of_decide_eq_true hxy))) (fun _ _ h => h)
      (fun x y z hxy hyz => decide_eq_false (not_lt.2 (le_trans (not_lt.1 (of_decide_eq_false hxy))
        (not_lt.1 (of_decide_eq_false hyz))))) i j h
    exact not_lt.1 (of_decide_eq_false this)

/-- Every position is ranked. -/
theorem rank_surj {n : ℕ} (a : Fin n → ℝ) (k : Fin n) : ∃ j, rank a j = k := sortedFrom_surjective _ k

/-- The `j`-th of the 4097 values in descending order (`0` past the last). -/
def ranked (a : Fin 4097 → ℝ) (j : ℕ) : ℝ := if h : j < 4097 then a (rank a ⟨j, h⟩) else 0

theorem ranked_of {a : Fin 4097 → ℝ} {j : ℕ} (h : j < 4097) : ranked a j = a (rank a ⟨j, h⟩) := dif_pos h

/-- Every value is at least the `j`-th or at most the next. -/
theorem ranked_gap (a : Fin 4097 → ℝ) {j : ℕ} (hj : j < 8) (k : Fin 4097) : ranked a j ≤ a k ∨ a k ≤ ranked a (j + 1) := by
  obtain ⟨i, rfl⟩ := rank_surj a k
  rw [ranked_of (show j < 4097 by omega), ranked_of (show j + 1 < 4097 by omega)]
  rcases Nat.lt_or_ge j i.val with h | h
  · exact Or.inr (rank_le a (show (⟨j + 1, by omega⟩ : Fin 4097) ≤ i from h))
  · exact Or.inl (rank_le a (show i ≤ (⟨j, by omega⟩ : Fin 4097) from h))

/-- The first is the greatest. -/
theorem ranked_top (a : Fin 4097 → ℝ) (k : Fin 4097) : a k ≤ ranked a 0 := by
  obtain ⟨i, rfl⟩ := rank_surj a k
  rw [ranked_of (show 0 < 4097 by omega)]
  exact rank_le a (Fin.mk_le_of_le_val (Nat.zero_le _))

/-- The eight first positions are those of the values that reach the eighth value, if the ninth value is smaller. -/
theorem among_eight (a : Fin 4097 → ℝ) (h : ranked a 8 < ranked a 7) (k : Fin 4097) :
    (∃ j : Fin 8, rank a ⟨j.val, by omega⟩ = k) ↔ ranked a 7 ≤ a k := by
  rw [ranked_of (show 7 < 4097 by omega)] at *
  rw [ranked_of (show 8 < 4097 by omega)] at h
  constructor
  · rintro ⟨j, rfl⟩
    exact rank_le a (show (⟨j.val, by omega⟩ : Fin 4097) ≤ ⟨7, by omega⟩ from Nat.lt_succ_iff.1 j.isLt)
  · intro hk
    obtain ⟨i, rfl⟩ := rank_surj a k
    rcases Nat.lt_or_ge i.val 8 with hi | hi
    · exact ⟨⟨i.val, hi⟩, rfl⟩
    · exact absurd (lt_of_le_of_lt (rank_le a (show (⟨8, by omega⟩ : Fin 4097) ≤ i from hi)) h) (not_lt.2 hk)

/-- A squared magnitude is not negative. -/
theorem pow2_nonneg (u : ℕ → ℝ) (k : ℕ) : 0 ≤ pow2 u k := by
  unfold pow2
  exact add_nonneg (by first | exact mul_self_nonneg _ | exact sq_nonneg _) (by first | exact mul_self_nonneg _ | exact sq_nonneg _)

/-- The squared magnitudes of the 4097 frequencies. -/
def mags (u : ℕ → ℝ) (k : Fin 4097) : ℝ := pow2 u k.val

/-- A value of the grid is a squared magnitude or `-1`. -/
theorem grid_cases (u : ℕ → ℝ) (i : Fin 64 × Fin 128) : (∃ k, gridPow u i.1 i.2 = mags u k) ∨ gridPow u i.1 i.2 = -1 := by
  unfold gridPow mags
  split
  · exact Or.inl ⟨⟨i.1.val + 64 * i.2.val, by omega⟩, rfl⟩
  · exact Or.inr rfl

theorem ranked_nonneg (u : ℕ → ℝ) (j : ℕ) : 0 ≤ ranked (mags u) j := by
  unfold ranked
  split
  · exact pow2_nonneg _ _
  · exact le_refl _

/-- The nine greatest squared magnitudes are distinct: they are the nine values of the grid and the last frequency. -/
theorem nine_ranked (u : ℕ → ℝ) (h : ∀ j, j < 8 → ranked (mags u) (j + 1) < ranked (mags u) j) :
    Nine (fun i : Fin 64 × Fin 128 => (gridPow u i.1 i.2 : EReal)) (pow2 u 4096) (fun j => (ranked (mags u) j : EReal)) where
  desc j hj := EReal.coe_lt_coe_iff.2 (h j hj)
  nonneg j _ := EReal.coe_nonneg.2 (ranked_nonneg u j)
  att j hj := by
    have hj' : j < 4097 := by omega
    simp only [ranked_of hj', EReal.coe_eq_coe_iff]
    generalize rank (mags u) ⟨j, hj'⟩ = k
    rcases Nat.lt_or_ge k.val 4096 with hk | hk
    · refine Or.inl ⟨(⟨k.val % 64, by omega⟩, ⟨k.val / 64, by omega⟩), ?_⟩
      show gridPow u _ _ = _
      unfold gridPow mags
      rw [if_pos (show k.val / 64 < 64 by omega)]
      exact congrArg _ (show k.val % 64 + 64 * (k.val / 64) = k.val by omega)
    · exact Or.inr (congrArg (pow2 u) (show 4096 = k.val by omega))
  top i := EReal.coe_le_coe_iff.2 (by
    rcases grid_cases u i with ⟨k, hk⟩ | hk
    · rw [hk]; exact ranked_top _ k
    · rw [hk]; linarith [ranked_nonneg u 0])
  topA := EReal.coe_le_coe_iff.2 (ranked_top (mags u) ⟨4096, by omega⟩)
  gap j hj i := by
    simp only [EReal.coe_le_coe_iff]
    rcases grid_cases u i with ⟨k, hk⟩ | hk
    · rw [hk]; exact ranked_gap _ hj k
    · rw [hk]; exact Or.inr (by linarith [ranked_nonneg u (j + 1)])
  gapA j hj := by
    simp only [EReal.coe_le_coe_iff]
    exact ranked_gap (mags u) hj ⟨4096, by omega⟩

/-- `top_k` along the frequencies, at one row whose values are ordered like the reals `a`: the entries at the first
    positions of the descending order of `a`, and those positions. -/
theorem topK_apply {K M : ℕ} (hK : K ≤ M) (x : (⟨3, ![16, 128, M]⟩ : Shape).Idx → EReal) (a : Fin M → ℝ)
    (b : Fin 16) (r : Fin 128) (h : ∀ k k', x (ix3 b r k') < x (ix3 b r k) ↔ a k' < a k)
    (hs : (⟨3, ![16, 128, M]⟩ : Shape).Slices (fun _ => 0) ⟨3, ![16, 128, K]⟩) (j : Fin K) :
    ((Host.topK ⟨3, ![16, 128, K]⟩ 2 (Ideal.cmpTotal .gt) x hs).1 (ix3 b r j) = x (ix3 b r (rank a ⟨j.val, by omega⟩)))
      ∧ (Host.topK ⟨3, ![16, 128, K]⟩ 2 (Ideal.cmpTotal .gt) x hs).2 (ix3 b r j)
        = BitVec.ofNat 32 (rank a ⟨j.val, by omega⟩).val := by
  have key : sortedFrom (fun k k' => Ideal.cmpTotal .gt (x (ix3 b r k)) (x (ix3 b r k')) == 1#1) = rank a := by
    unfold rank
    funext q
    congr 1
    funext k k'
    have : (Ideal.cmpTotal .gt (x (ix3 b r k)) (x (ix3 b r k')) == 1#1) = decide (x (ix3 b r k') < x (ix3 b r k)) := by
      show (BitVec.ofBool (decide (x (ix3 b r k') < x (ix3 b r k))) == 1#1) = _
      cases decide (x (ix3 b r k') < x (ix3 b r k)) <;> rfl
    rw [this]
    exact decide_eq_decide.2 (h k k')
  have halong : ∀ k : Fin M, Shape.Idx.along (s := ⟨3, ![16, 128, M]⟩) (ix3 b r (⟨j.val, by omega⟩ : Fin M)) 2 k = ix3 b r k := fun k => by
    funext c
    match c with
    | ⟨0, _⟩ => rfl
    | ⟨1, _⟩ => rfl
    | ⟨2, _⟩ => rfl
  have hat : ∀ c : (⟨3, ![16, 128, M]⟩ : Shape).Idx, c = ix3 b r (⟨j.val, by omega⟩ : Fin M) →
      (c.along 2 (sortedFrom (fun k k' => Ideal.cmpTotal .gt (x (c.along 2 k)) (x (c.along 2 k')) == 1#1) (c 2)))
        = ix3 b r (rank a ⟨j.val, by omega⟩) := by
    rintro c rfl
    exact (halong _).trans (congrArg (ix3 b r) ((congrArg (fun B => sortedFrom B (⟨j.val, by omega⟩ : Fin M))
      (funext fun k => funext fun k' => congrArg₂ (fun p q => Ideal.cmpTotal .gt (x p) (x q) == 1#1) (halong k) (halong k'))).trans
      (congrFun key _)))
  have hslice : (fun c => (⟨0 + ((ix3 b r j : (⟨3, ![16, 128, K]⟩ : Shape).Idx) c).val, by
      have := hs; match c with
      | ⟨0, _⟩ => exact (by simpa using b.isLt)
      | ⟨1, _⟩ => exact (by simpa using r.isLt)
      | ⟨2, _⟩ => exact (by have := j.isLt; simp; omega)⟩ : Fin ((⟨3, ![16, 128, M]⟩ : Shape).size c)))
      = ix3 b r (⟨j.val, by omega⟩ : Fin M) := by
    funext c
    apply Fin.ext
    match c with
    | ⟨0, _⟩ => exact Nat.zero_add _
    | ⟨1, _⟩ => exact Nat.zero_add _
    | ⟨2, _⟩ => exact Nat.zero_add _
  constructor
  · exact congrArg x (hat _ hslice)
  · exact congrArg (fun c : (⟨3, ![16, 128, M]⟩ : Shape).Idx => BitVec.ofNat 32 (c 2).val) (hat _ hslice)

end Cert.Proof
-- ==== Proof.Rows.lean ====
/- The modulated rows of the problem, from its four arguments: row `(b, r)` is the samples times `1 + tanh` of its score.
   Nothing here mentions the kernel or the reference. -/
module

public import Idealize.ShloMosaic.Lib.Pointwise
public import proofs.«01_k».proof.Proof.Consts
public import proofs.«01_k».proof.Proof.Order

@[expose] public section

noncomputable section

namespace Cert.Proof

open Idealize.ShloMosaic

variable (X : (⟨3, ![16, 128, 8192]⟩ : Shape).Idx → EReal) (E : (⟨2, ![16, 256]⟩ : Shape).Idx → EReal)
  (W : (⟨2, ![128, 256]⟩ : Shape).Idx → EReal) (B : (⟨1, ![128]⟩ : Shape).Idx → EReal)

/-- The score of a row: its embedding through the linear layer. -/
def score (b : Fin 16) (r : Fin 128) : EReal := ∑ j : Fin 256, E (ix2 b j) * W (ix2 r j) + B (ix1 r)

/-- The factor of a row, a real. -/
def gain (b : Fin 16) (r : Fin 128) : ℝ := 1 + Classical.choose (tanh_real (score E W B b r))

/-- The factor is one plus the hyperbolic tangent of the score, whatever the score. -/
theorem gain_eq (b : Fin 16) (r : Fin 128) : 1 + Ideal.tanh (score E W B b r) = ((gain E W B b r : ℝ) : EReal) := by
  rw [gain, EReal.coe_add, ← Classical.choose_spec (tanh_real (score E W B b r))]
  rfl

/-- A sample, as a real. -/
def sample (b : Fin 16) (r : Fin 128) (n : ℕ) : ℝ := if h : n < 8192 then (X (ix3 b r ⟨n, h⟩)).toReal else 0

/-- The modulated row. -/
def row (b : Fin 16) (r : Fin 128) (n : ℕ) : ℝ := sample X b r n * gain E W B b r

/-- The samples are finite, and the nine greatest squared magnitudes of every modulated row are distinct. -/
structure Clear : Prop where
  /-- the samples are reals -/
  real : ∀ b r (n : Fin 8192), X (ix3 b r n) = ((sample X b r n.val : ℝ) : EReal)
  /-- the order of the nine is strict -/
  strict : ∀ b r j, j < 8 → ranked (mags (row X E W B b r)) (j + 1) < ranked (mags (row X E W B b r)) j

/-- The sum of a row of samples against a real wave. -/
theorem sum_wave {f : ℕ → ℝ} {v w : Fin 8192 → EReal}
    {c : ℕ → ℝ} (hv : ∀ n, v n = ((f n.val : ℝ) : EReal)) (hw : ∀ n, w n = ((c n.val : ℝ) : EReal)) :
    ∑ n : Fin 8192, v n * w n = ((∑ n : Fin 8192, f n.val * c n.val : ℝ) : EReal) := by
  rw [← coe_sum]
  exact Finset.sum_congr rfl fun n _ => by rw [hv, hw, EReal.coe_mul]

/-- The real part of a modulated row's spectrum, the factor taken out. -/
theorem specR_scaled (f : ℕ → ℝ) (g : ℝ) (k : ℕ) :
    specR (fun n => f n * g) k = g * ∑ n : Fin 8192, f n.val * Real.cos (ang 8192 (n.val * k)) := by
  unfold specR
  rw [Finset.mul_sum]
  exact Finset.sum_congr rfl fun n _ => by ring

/-- The imaginary part likewise. -/
theorem specI_scaled (f : ℕ → ℝ) (g : ℝ) (k : ℕ) :
    specI (fun n => f n * g) k = -(g * ∑ n : Fin 8192, f n.val * -Real.sin (ang 8192 (n.val * k))) := by
  unfold specI
  rw [Finset.mul_sum, ← Finset.sum_neg_distrib]
  exact Finset.sum_congr rfl fun n _ => by ring

/-- A conjunction over finitely many bits is one only if each bit is. -/
theorem fold_andi_one {ι : Type} [Fintype ι] (f : ι → BitVec 1) (h : Finset.fold IntOp.andi 1#1 f Finset.univ = 1#1) (i : ι) : f i = 1#1 := by
  classical
  have bits : ∀ x y : BitVec 1, IntOp.andi x y = 1#1 → x = 1#1 ∧ y = 1#1 := by decide
  rw [← Finset.insert_erase (Finset.mem_univ i), Finset.fold_insert (Finset.notMem_erase i _)] at h
  exact (bits _ _ h).1

end Cert.Proof
-- ==== Proof.KernelValue.lean ====
/- The kernel's result: at every batch, channel and time, the row rebuilt from its eight greatest frequencies. -/
module

public import proofs.«01_k».proof.Proof.Windows
public import proofs.«01_k».proof.Proof.Block
public import proofs.«01_k».proof.Proof.Rows

@[expose] public section

noncomputable section

namespace Cert.Proof

open Cert.KernelIdeal Cert.KernelIdeal.Gen Cert.KernelIdeal.Value Idealize.ShloMosaic

variable (m : (ℓ : Loc nD τ sig) → Buf (Elt Ideal) ℓ) (c : Dev nD)

/-- The tables a grid point reads hold the cosines and sines of the two transform lengths. -/
theorem tables_at (t : Fin cfg0.N) :
    Tables (iblk m c 4 t) (iblk m c 5 t) (iblk m c 6 t) (iblk m c 7 t) (iblk m c 8 t) (iblk m c 9 t) (iblk m c 10 t)
      (iblk m c 11 t) (iblk m c 12 t) (iblk m c 13 t) where
  w128r a b := (block_w128r m c t a b).trans (table_w128r m c a b)
  w128i a b := (block_w128i m c t a b).trans (table_w128i m c a b)
  t2r a b := (block_t2r m c t a b).trans (table_t2r m c a b)
  t2i a b := (block_t2i m c t a b).trans (table_t2i m c a b)
  w64lo a k := (block_w64cat m c t a (lo k)).trans ((table_w64cat m c a (lo k)).trans (if_pos k.isLt))
  w64hi a k := (block_w64cat m c t a (hi k)).trans ((table_w64cat m c a (hi k)).trans (upper k _ fun l => ((Real.sin (ang 64 (a * l)) : ℝ) : EReal)))
  twiddle :=
    { re := fun n k => (block_t1cat m c t n (lo k)).trans ((table_t1cat m c n (lo k)).trans (if_pos k.isLt))
      im := fun n k => (block_t1cat m c t n (hi k)).trans ((table_t1cat m c n (hi k)).trans
        (upper k _ fun l => ((Real.cos (ang 8192 (n * l)) : ℝ) : EReal)))
      re' := fun n k => (block_t2cat m c t n (lo k)).trans ((table_t2cat m c n (lo k)).trans (if_pos k.isLt))
      im' := fun n k => (block_t2cat m c t n (hi k)).trans ((table_t2cat m c n (hi k)).trans
        (upper k _ fun l => ((Real.sin (ang 8192 (n * l)) : ℝ) : EReal))) }
  half :=
    { re := fun n k => (block_w128cat m c t n (lo k)).trans ((table_w128cat m c n (lo k)).trans (if_pos k.isLt))
      im := fun n k => (block_w128cat m c t n (hi k)).trans ((table_w128cat m c n (hi k)).trans
        (upper k _ fun l => ((Real.sin (ang 128 (n * l)) : ℝ) : EReal))) }
  w64r a b := (block_w64r m c t a b).trans (table_w64r m c a b)
  w64i a b := (block_w64i m c t a b).trans (table_w64i m c a b)
where
  /-- A choice by the lane's half, at an upper lane. -/
  upper (k : Fin 64) (x : EReal) (f : ℕ → EReal) : (if (hi k).val < 64 then x else f ((hi k).val - 64)) = f k.val := by
    rw [if_neg (show ¬ 64 + k.val < 64 by omega)]
    exact congrArg f (Nat.add_sub_cancel_left 64 k.val)

/-- **The kernel's result.** -/
theorem kernel_value (hC : Clear (m (c, Proc.tc.devRef main_arg0)) (m (c, Proc.tc.devRef main_arg1)) (m (c, Proc.tc.devRef main_arg2))
      (m (c, Proc.tc.devRef main_arg3))) (u : Fin 16 → Fin 128 → ℕ → ℝ)
    (hu : u = row (m (c, Proc.tc.devRef main_arg0)) (m (c, Proc.tc.devRef main_arg1)) (m (c, Proc.tc.devRef main_arg2)) (m (c, Proc.tc.devRef main_arg3)))
    (b : Fin 16) (d : Fin 128) (n : Fin 8192) :
    ((dats m 0 c).arrAt 14 cfg0.N : S16x128x8192.Idx → EReal) (ix3 b d n)
      = ((rebuilt (u b d) (fun k => ranked (mags (u b d)) 7 ≤ pow2 (u b d) k) n.val * (1 / 8192) : ℝ) : EReal) := by
  obtain ⟨h, r, rfl⟩ : ∃ (h : Fin 2) (r : Fin 64), d = (⟨h.val * 64 + r.val, by omega⟩ : Fin 128) :=
    ⟨⟨d.val / 64, by omega⟩, ⟨d.val % 64, by omega⟩, Fin.ext (show d.val = d.val / 64 * 64 + d.val % 64 by omega)⟩
  obtain ⟨n1, n2, rfl⟩ : ∃ (n1 : Fin 64) (n2 : Fin 128), n = (⟨n1.val * 128 + n2.val, by omega⟩ : Fin 8192) :=
    ⟨⟨n.val / 128, by omega⟩, ⟨n.val % 128, by omega⟩, Fin.ext (show n.val = n.val / 128 * 128 + n.val % 128 by omega)⟩
  have hN := points
  obtain ⟨t, ht⟩ : ∃ t : Fin cfg0.N, t.val = b.val * 2 + h.val := ⟨⟨b.val * 2 + h.val, by omega⟩, rfl⟩
  refine (result_apply m c t b h ht r _).trans ?_
  subst hu
  refine block_value (s := fun r => sample (m (c, Proc.tc.devRef main_arg0)) b ⟨h.val * 64 + r.val, by omega⟩)
    (g := fun r => gain (m (c, Proc.tc.devRef main_arg1)) (m (c, Proc.tc.devRef main_arg2)) (m (c, Proc.tc.devRef main_arg3)) b ⟨h.val * 64 + r.val, by omega⟩)
    (t := fun r => ranked (mags (row (m (c, Proc.tc.devRef main_arg0)) (m (c, Proc.tc.devRef main_arg1)) (m (c, Proc.tc.devRef main_arg2))
      (m (c, Proc.tc.devRef main_arg3)) b ⟨h.val * 64 + r.val, by omega⟩)))
    (fun r n => (block_x m c t b h ht r n).trans (hC.real b _ n)) (fun r => ?_) (tables_at m c t)
    (fun r => nine_ranked _ (hC.strict b _)) r n1 n2
  rw [← gain_eq, score, block_bias m c t b h ht r]
  simp only [block_embed m c t b h ht, block_weight m c t b h ht]

end Cert.Proof
-- ==== Proof.Ref.lean ====
/- The reference's spectrum and its choice of frequencies: real and imaginary parts, the order of the amplitudes, and
   the index words of the eight greatest. -/
module

public import proofs.«01_k».proof.Proof.Gen.ReferenceIdeal.Run
public import Idealize.ShloMosaic.Lib.Pointwise
public import Idealize.ShloMosaic.Lib.StableHlo.Predicate
public import proofs.«01_k».proof.Proof.Rows

@[expose] public section

noncomputable section

namespace Cert.Proof

open Cert.ReferenceIdeal Cert.ReferenceIdeal.Gen Cert.ReferenceIdeal.Value Idealize.ShloMosaic

/-- Device contents, over the extended reals. -/
abbrev Contents := Valuation τ sig (Elt Ideal)

/-- The modulated row `(b, r)` of the device's arguments. -/
def rowOf (V : Contents) (b : Fin 16) (r : Fin 128) : ℕ → ℝ :=
  row (V (Proc.devRef .tc main_arg0)) (V (Proc.devRef .tc main_arg1)) (V (Proc.devRef .tc main_arg2)) (V (Proc.devRef .tc main_arg3)) b r

/-- The device's arguments satisfy the precondition. -/
def ClearAt (V : Contents) : Prop :=
  Clear (V (Proc.devRef .tc main_arg0)) (V (Proc.devRef .tc main_arg1)) (V (Proc.devRef .tc main_arg2)) (V (Proc.devRef .tc main_arg3))

/-- The chosen frequencies of a row. -/
def picked (V : Contents) (b : Fin 16) (r : Fin 128) (j : Fin 8) : Fin 4097 := rank (mags (rowOf V b r)) ⟨j.val, by omega⟩

/-- A product of a time and a frequency is a small word. -/
theorem time_freq_lt (n : Fin 8192) (k : Fin 4097) : n.val * k.val < 2 ^ 31 :=
  lt_of_le_of_lt (Nat.mul_le_mul (Nat.le_of_lt n.isLt) (Nat.le_of_lt k.isLt)) (by norm_num)

/-- A small word is not negative, so the wrapped index is the index. -/
theorem wrap_small (n : ℕ) (h : n < 4097) (w : BitVec 32) :
    Scalar.select (IntOp.cmpi .slt (BitVec.ofNat 32 n) 0#32) w (BitVec.ofNat 32 n) = BitVec.ofNat 32 n := by
  have : IntOp.cmpi .slt (BitVec.ofNat 32 n) 0#32 = 0#1 := by
    show BitVec.ofBool (BitVec.slt _ _) = _
    rw [BitVec.slt, StableHlo.Predicate.toInt_ofNat_small _ (by omega)]
    rw [decide_eq_false (by simp)]
    rfl
  rw [this]
  rfl

variable {V : Contents} (hV : ClearAt V)
include hV

/-- The modulated samples. -/
theorem ref_row (b : Fin 16) (r : Fin 128) (n : Fin 8192) :
    (res_main_v10 V : S16x128x8192.Idx → EReal) (ix3 b r n) = ((rowOf V b r n.val : ℝ) : EReal) := by
  pointwise [res_main_v10]
  rw [rowOf, row, EReal.coe_mul, ← gain_eq, ← hV.real, score]

/-- The real parts. -/
theorem ref_re (b : Fin 16) (r : Fin 128) (k : Fin 4097) :
    (res_main_v25 V : S16x128x4097.Idx → EReal) (ix3 b r k) = ((specR (rowOf V b r) k.val : ℝ) : EReal) := by
  pointwise [res_main_v25]
  refine sum_wave (c := fun n => Real.cos (ang 8192 (n * k.val))) (fun n => ref_row hV b r n) fun n => ?_
  pointwise [res_main_v22]
  rw [angle_mod _ _ (time_freq_lt n k), cos_angle_mod]

/-- The imaginary parts. -/
theorem ref_im (b : Fin 16) (r : Fin 128) (k : Fin 4097) :
    (res_main_v27 V : S16x128x4097.Idx → EReal) (ix3 b r k) = ((specI (rowOf V b r) k.val : ℝ) : EReal) := by
  pointwise [res_main_v27]
  have := sum_wave (c := fun n => -Real.sin (ang 8192 (n * k.val))) (w := fun n => Ideal.sin (res_main_v22 V (ix2 n k)))
    (fun n => ref_row hV b r n) fun n => by
      pointwise [res_main_v22]
      rw [angle_mod _ _ (time_freq_lt n k), sin_angle_mod]
  rw [this, ← EReal.coe_neg, specI, ← Finset.sum_neg_distrib]
  simp only [mul_neg, neg_neg]

/-- The amplitudes. -/
theorem ref_amp (b : Fin 16) (r : Fin 128) (k : Fin 4097) :
    (res_main_v31 V : S16x128x4097.Idx → EReal) (ix3 b r k) = ((Real.sqrt (mags (rowOf V b r) k) : ℝ) : EReal) := by
  pointwise [res_main_v31]
  rw [ref_re hV, ref_im hV, ← EReal.coe_mul, ← EReal.coe_mul, ← EReal.coe_add]
  exact (Ideal.sqrt_coe _).trans (if_neg (not_lt.2 (pow2_nonneg (rowOf V b r) k.val)))

/-- The index words of the eight greatest amplitudes. -/
theorem ref_indices (b : Fin 16) (r : Fin 128) (j : Fin 8) :
    (res_main_indices V : S16x128x8.Idx → BitVec 32) (ix3 b r j) = BitVec.ofNat 32 (picked V b r j).val := by
  unfold res_main_indices
  refine (topK_apply (by omega) (res_main_v31 V) (mags (rowOf V b r)) b r (fun k k' => ?_) _ j).2
  rw [ref_amp hV, ref_amp hV, EReal.coe_lt_coe_iff]
  exact Real.sqrt_lt_sqrt_iff (pow2_nonneg _ _)

/-- The wrapped index words, as the first gather reads them. -/
theorem ref_call0 (b : Fin 16) (r : Fin 128) (j : Fin 8) (z : Fin 1) :
    (res_main_call0_v5 V : S16x128x8x1.Idx → BitVec 32) (ix4 b r j z) = BitVec.ofNat 32 (picked V b r j).val := by
  pointwise [res_main_call0_v5]
  rw [ref_indices hV]
  exact wrap_small _ (picked V b r j).isLt _

/-- The wrapped index words, as the second gather reads them. -/
theorem ref_call1 (b : Fin 16) (r : Fin 128) (j : Fin 8) (z : Fin 1) :
    (res_main_call1_v5 V : S16x128x8x1.Idx → BitVec 32) (ix4 b r j z) = BitVec.ofNat 32 (picked V b r j).val := by
  pointwise [res_main_call1_v5]
  rw [ref_indices hV]
  exact wrap_small _ (picked V b r j).isLt _

end Cert.Proof
-- ==== Proof.Scatter.lean ====
/- The reference's gather of the chosen coefficients and its scatter of them into an empty spectrum, read at one entry:
   `y[b, r, j] = x[b, r, k_j]`, and `z[b, r, k]` the update written at `k`, or `0` if none is. -/
module

public import proofs.«01_k».proof.Proof.Gen.ReferenceIdeal
public import Idealize.ShloMosaic.Lib.Pointwise
public import Idealize.ShloMosaic.Lib.Routing.OpsSet

@[expose] public section

noncomputable section

namespace Cert.Proof

open Cert.ReferenceIdeal Cert.ReferenceIdeal.Gen Idealize.ShloMosaic

/-- The gather at an entry whose index word is `k`: the operand at frequency `k`. -/
theorem gather_entry (x : S16x128x4097.Idx → EReal) (idx : IVec S16x128x8x1 32) (b : Fin 16) (r : Fin 128) (j : Fin 8)
    (k : Fin 4097) (h : idx (ix4 b r j (0 : Fin 1)) = BitVec.ofNat 32 k.val) :
    Host.gather gather_S16x128x4097_S16x128x8x1_S16x128x8_n_2_01_01_2_3_111 x idx (ix3 b r j) = x (ix3 b r k) := by
  show x (GatherDims.operandIdx gather_S16x128x4097_S16x128x8x1_S16x128x8_n_2_01_01_2_3_111 (ix3 b r j) idx) = _
  congr 1
  funext c
  apply Fin.ext
  show GatherDims.start _ _ _ c + GatherDims.batchCoord _ _ c + GatherDims.offCoord _ _ c = _
  match c with
  | ⟨0, _⟩ => exact (Nat.add_zero _).trans (Nat.zero_add _)
  | ⟨1, _⟩ => exact (Nat.add_zero _).trans (Nat.zero_add _)
  | ⟨2, _⟩ =>
    have hsi : GatherDims.siIdx gather_S16x128x4097_S16x128x8x1_S16x128x8_n_2_01_01_2_3_111 (ix3 b r j) ⟨0, by decide⟩
        = ix4 b r j (0 : Fin 1) := by
      funext e
      match e with
      | ⟨0, _⟩ => rfl
      | ⟨1, _⟩ => rfl
      | ⟨2, _⟩ => rfl
      | ⟨3, _⟩ => rfl
    have hst : min (idx (GatherDims.siIdx gather_S16x128x4097_S16x128x8x1_S16x128x8_n_2_01_01_2_3_111 (ix3 b r j) ⟨0, by decide⟩)).toInt.toNat 4096
        = k.val := by
      rw [hsi, h, StableHlo.Predicate.toInt_ofNat_small _ (by omega)]
      omega
    exact hst

/-- Update `(b', r', j)` is written at `(b, r, k)` exactly when its three index words are `b`, `r` and `k`. -/
theorem lands_entry (idx : IVec S16x128x8x3 32) (b' : Fin 16) (r' : Fin 128) (j : Fin 8) (b : Fin 16) (r : Fin 128) (k : Fin 4097) :
    ScatterDims.resultIdx? scatter_S16x128x4097_S16x128x8x3_S16x128x8_n_012_012_3 (ix3 b' r' j) idx = some (ix3 b r k)
      ↔ (idx (ix4 b' r' j (0 : Fin 3))).toInt = b.val ∧ (idx (ix4 b' r' j (1 : Fin 3))).toInt = r.val
        ∧ (idx (ix4 b' r' j (2 : Fin 3))).toInt = k.val := by
  have hst : ∀ c : Fin 3, ScatterDims.start scatter_S16x128x4097_S16x128x8x3_S16x128x8_n_012_012_3 (ix3 b' r' j) idx c
      = (idx (ix4 b' r' j c)).toInt := fun c => by
    unfold ScatterDims.start
    refine (dif_pos (show c ∈ [(0 : Fin 3), 1, 2] by revert c; decide)).trans ?_
    congr 2
    funext e
    match e with
    | ⟨0, _⟩ => rfl
    | ⟨1, _⟩ => rfl
    | ⟨2, _⟩ => rfl
    | ⟨3, _⟩ =>
      match c with
      | ⟨0, _⟩ => rfl
      | ⟨1, _⟩ => rfl
      | ⟨2, _⟩ => rfl
  have hwin : ∀ c : Fin 3, ScatterDims.window scatter_S16x128x4097_S16x128x8x3_S16x128x8_n_012_012_3 (ix3 b' r' j) c = 0 := fun c => by
    unfold ScatterDims.window
    exact dif_neg (by revert c; decide)
  unfold ScatterDims.resultIdx?
  simp only [hst, hwin]
  constructor
  · intro h
    split at h
    · rename_i hall
      have h := Option.some.inj h
      have e0 := congrArg Fin.val (congrFun h (0 : Fin 3))
      have e1 := congrArg Fin.val (congrFun h (1 : Fin 3))
      have e2 := congrArg Fin.val (congrFun h (2 : Fin 3))
      have g0 := hall (0 : Fin 3)
      have g1 := hall (1 : Fin 3)
      have g2 := hall (2 : Fin 3)
      simp only [ix3_0, ix3_1, ix3_2] at e0 e1 e2
      omega
    · exact absurd h (by simp)
  · rintro ⟨h0, h1, h2⟩
    have hb := b.isLt
    have hr := r.isLt
    have hk := k.isLt
    have hv : ∀ c : Fin 3, (idx (ix4 b' r' j c)).toInt = (((ix3 b r k : S16x128x4097.Idx) c).val : ℤ) := fun c => by
      match c with
      | ⟨0, _⟩ => exact h0
      | ⟨1, _⟩ => exact h1
      | ⟨2, _⟩ => exact h2
    rw [dif_pos fun c => by
      have : (((ix3 b r k : S16x128x4097.Idx) c).val : ℤ) < (S16x128x4097.size c : ℤ) :=
        Int.ofNat_lt.2 ((ix3 b r k : S16x128x4097.Idx) c).isLt
      rw [hv c]
      exact ⟨by omega, by rw [Int.natCast_zero, Int.add_zero]; exact this⟩]
    congr 1
    funext c
    apply Fin.ext
    show ((idx (ix4 b' r' j c)).toInt + ((0 : ℕ) : ℤ)).toNat = _
    rw [hv c]; omega

/-- The scatter at an entry, when update `(b, r, j)` is written at `(b, r, p b r j)` and holds `x` there: `x` at the
    chosen frequencies, the operand elsewhere. -/
theorem scatter_entry (x0 x : S16x128x4097.Idx → EReal) (idx : IVec S16x128x8x3 32) (upd : S16x128x8.Idx → EReal)
    (p : Fin 16 → Fin 128 → Fin 8 → Fin 4097)
    (h0 : ∀ b r j, idx (ix4 b r j (0 : Fin 3)) = BitVec.ofNat 32 b.val)
    (h1 : ∀ b r j, idx (ix4 b r j (1 : Fin 3)) = BitVec.ofNat 32 r.val)
    (h2 : ∀ b r j, idx (ix4 b r j (2 : Fin 3)) = BitVec.ofNat 32 (p b r j).val)
    (hu : ∀ b r j, upd (ix3 b r j) = x (ix3 b r (p b r j)))
    (b : Fin 16) (r : Fin 128) (k : Fin 4097) [Decidable (∃ j, p b r j = k)] :
    Host.scatter scatter_S16x128x4097_S16x128x8x3_S16x128x8_n_012_012_3 (fun _ v => v) x0 idx upd (ix3 b r k)
      = if ∃ j, p b r j = k then x (ix3 b r k) else x0 (ix3 b r k) := by
  have lands : ∀ (b' : Fin 16) (r' : Fin 128) (j : Fin 8),
      ScatterDims.resultIdx? scatter_S16x128x4097_S16x128x8x3_S16x128x8_n_012_012_3 (ix3 b' r' j) idx = some (ix3 b r k)
        ↔ b' = b ∧ r' = r ∧ p b' r' j = k := fun b' r' j => by
    rw [lands_entry, h0, h1, h2, StableHlo.Predicate.toInt_ofNat_small _ (by omega),
      StableHlo.Predicate.toInt_ofNat_small _ (by omega), StableHlo.Predicate.toInt_ofNat_small _ (by omega),
      Fin.ext_iff, Fin.ext_iff, Fin.ext_iff]
    omega
  have at3 : ∀ q : S16x128x8.Idx, ∃ (b' : Fin 16) (r' : Fin 128) (j : Fin 8), q = ix3 b' r' j := fun q => by
    refine ⟨q 0, q 1, q 2, ?_⟩
    funext c
    match c with
    | ⟨0, _⟩ => rfl
    | ⟨1, _⟩ => rfl
    | ⟨2, _⟩ => rfl
  split
  · rename_i h
    obtain ⟨j, hj⟩ := h
    refine Routing.scatter_set_hit _ x0 idx upd _ _ (fun q hq => ?_) (ix3 b r j) ((lands b r j).2 ⟨rfl, rfl, hj⟩)
    obtain ⟨b', r', j', rfl⟩ := at3 q
    obtain ⟨rfl, rfl, rfl⟩ := (lands _ _ _).1 hq
    exact hu _ _ _
  · rename_i h
    refine Routing.scatter_set_miss _ x0 idx upd _ fun q hq => h ?_
    obtain ⟨b', r', j', rfl⟩ := at3 q
    obtain ⟨rfl, rfl, e⟩ := (lands _ _ _).1 hq
    exact ⟨_, e⟩

end Cert.Proof
-- ==== Proof.RefValue.lean ====
/- The reference's result: the sum, over the frequencies whose squared magnitude reaches the eighth greatest, of the
   weighted waves of their coefficients. -/
module

public import proofs.«01_k».proof.Proof.Ref
public import proofs.«01_k».proof.Proof.Scatter

@[expose] public section

noncomputable section

namespace Cert.Proof

open Cert.ReferenceIdeal Cert.ReferenceIdeal.Gen Cert.ReferenceIdeal.Value Idealize.ShloMosaic

/-- A small word lies between `0` and `4096`, so the gather's bounds test is true. -/
theorem in_range (n : ℕ) (h : n < 4097) :
    IntOp.andi (IntOp.cmpi .sge (BitVec.ofNat 32 n) 0#32) (IntOp.cmpi .sle (BitVec.ofNat 32 n) 4096#32) = 1#1 := by
  have h0 : IntOp.cmpi .sge (BitVec.ofNat 32 n) 0#32 = 1#1 := by
    show BitVec.ofBool (BitVec.sle _ _) = _
    rw [BitVec.sle, StableHlo.Predicate.toInt_ofNat_small n (by omega)]
    rw [decide_eq_true (by simp)]
    rfl
  have h1 : IntOp.cmpi .sle (BitVec.ofNat 32 n) 4096#32 = 1#1 := by
    show BitVec.ofBool (BitVec.sle _ _) = _
    rw [BitVec.sle, StableHlo.Predicate.toInt_ofNat_small n (by omega), show (4096#32).toInt = 4096 from by decide]
    rw [decide_eq_true (by omega)]
    rfl
  rw [h0, h1]
  rfl

/-- The weights of the frequencies. -/
theorem ref_weight (V : Contents) (k : Fin 4097) : (res_main_v104 V : S4097.Idx → EReal) (ix1 k) = ((wt k.val : ℝ) : EReal) := by
  pointwise [res_main_v104, res_main_v98]
  have eqw : ∀ m, m < 4097 → (BitVec.ofNat 32 k.val = BitVec.ofNat 32 m ↔ k.val = m) := fun m hm => by
    rw [← BitVec.toNat_inj, BitVec.toNat_ofNat, BitVec.toNat_ofNat, Nat.mod_eq_of_lt (by omega), Nat.mod_eq_of_lt (by omega)]
  have h0 : IntOp.cmpi .eq (BitVec.ofNat 32 k.val) 0#32 = if k.val = 0 then 1#1 else 0#1 := by
    by_cases h : k.val = 0
    · rw [if_pos h, (eqw 0 (by omega)).2 h]; rfl
    · rw [if_neg h]
      exact congrArg BitVec.ofBool (beq_eq_false_iff_ne.2 fun e => h ((eqw 0 (by omega)).1 e))
  have h1 : IntOp.cmpi .eq (BitVec.ofNat 32 k.val) 4096#32 = if k.val = 4096 then 1#1 else 0#1 := by
    by_cases h : k.val = 4096
    · rw [if_pos h, (eqw 4096 (by omega)).2 h]; rfl
    · rw [if_neg h]
      exact congrArg BitVec.ofBool (beq_eq_false_iff_ne.2 fun e => h ((eqw 4096 (by omega)).1 e))
  rw [h0, h1, word_two, wt]
  by_cases e0 : k.val = 0
  · rw [if_pos e0, if_neg (show k.val ≠ 4096 by omega), if_pos (Or.inl e0), EReal.coe_one]; rfl
  · by_cases e1 : k.val = 4096
    · rw [if_neg e0, if_pos e1, if_pos (Or.inr e1), EReal.coe_one]; rfl
    · rw [if_neg e0, if_neg e1, if_neg (not_or.2 ⟨e0, e1⟩)]; rfl

/-- The updates: the gathered coefficients, every index being in range. -/
theorem updates_apply (x : FVec Ideal S16x128x4097 .f32) (cw : IVec S16x128x8x1 32) (p : Fin 16 → Fin 128 → Fin 8 → Fin 4097)
    (hc : ∀ b r j z, cw (ix4 b r j z) = BitVec.ofNat 32 (p b r j).val) (b : Fin 16) (r : Fin 128) (j : Fin 8) :
    (select (Host.reduce IntOp.andi (andi (cmpi .sge cw (broadcastInDim S16x128x8x1 ![] Facts₀.bcast_S_S16x128x8x1 (constantI S_ 32 0#32)))
        (cmpi .sle cw (broadcastInDim S16x128x8x1 ![0, 1, 2, 3] Facts₀.bcast_S1x1x1x1_S16x128x8x1_0_1_2_3
          (broadcastInDim S1x1x1x1 ![3] Facts₀.bcast_S1_S1x1x1x1_3 (constantI S1 32 4096#32))))) (constantI S_ 1 1#1)
        Facts₀.reducesTo_S16x128x8x1_S16x128x8_d3 Facts₀.h_S_)
      (Host.gather gather_S16x128x4097_S16x128x8x1_S16x128x8_n_2_01_01_2_3_111 x cw)
      (broadcastInDim S16x128x8 ![] Facts₀.bcast_S_S16x128x8 (constant (F := Ideal) S_ .f32 0x7FC00000#32)) : S16x128x8.Idx → EReal) (ix3 b r j)
      = (x : S16x128x4097.Idx → EReal) (ix3 b r (p b r j)) := by
  pointwise
  simp only [hc]
  rw [in_range _ (p b r j).isLt, gather_entry x cw b r j (p b r j) (hc b r j 0)]
  exact congrArg (fun t => Scalar.select t _ _) (by decide : Finset.fold IntOp.andi 1#1 (fun _ : Fin 1 => 1#1) Finset.univ = 1#1)

/-- Three index words side by side: the word at each of the three places. -/
theorem words_apply (A0 A1 A2 : IVec S16x128x8x1 32) (b : Fin 16) (r : Fin 128) (j : Fin 8) :
    concatenate S16x128x8x3 3 [⟨S16x128x8x1, A0⟩, ⟨S16x128x8x1, A1⟩, ⟨S16x128x8x1, A2⟩]
        Facts₀.concatenates_S16x128x8x1_S16x128x8x1_S16x128x8x1_S16x128x8x3_d3 (ix4 b r j (0 : Fin 3)) = A0 (ix4 b r j (0 : Fin 1))
      ∧ concatenate S16x128x8x3 3 [⟨S16x128x8x1, A0⟩, ⟨S16x128x8x1, A1⟩, ⟨S16x128x8x1, A2⟩]
        Facts₀.concatenates_S16x128x8x1_S16x128x8x1_S16x128x8x1_S16x128x8x3_d3 (ix4 b r j (1 : Fin 3)) = A1 (ix4 b r j (0 : Fin 1))
      ∧ concatenate S16x128x8x3 3 [⟨S16x128x8x1, A0⟩, ⟨S16x128x8x1, A1⟩, ⟨S16x128x8x1, A2⟩]
        Facts₀.concatenates_S16x128x8x1_S16x128x8x1_S16x128x8x1_S16x128x8x3_d3 (ix4 b r j (2 : Fin 3)) = A2 (ix4 b r j (0 : Fin 1)) := by
  refine ⟨?_, ?_, ?_⟩ <;> pointwise

/-- One wave sum over scattered coefficients. -/
theorem sum_scattered {x0 x : S16x128x4097.Idx → EReal} {idx : IVec S16x128x8x3 32} {upd : S16x128x8.Idx → EReal}
    {p : Fin 16 → Fin 128 → Fin 8 → Fin 4097} {w v : Fin 4097 → EReal} {b : Fin 16} {r : Fin 128} {f q c : ℕ → ℝ}
    (hz : ∀ b r k, x0 (ix3 b r k) = 0)
    (h0 : ∀ b r j, idx (ix4 b r j (0 : Fin 3)) = BitVec.ofNat 32 b.val)
    (h1 : ∀ b r j, idx (ix4 b r j (1 : Fin 3)) = BitVec.ofNat 32 r.val)
    (h2 : ∀ b r j, idx (ix4 b r j (2 : Fin 3)) = BitVec.ofNat 32 (p b r j).val)
    (hu : ∀ b r j, upd (ix3 b r j) = x (ix3 b r (p b r j)))
    (hx : ∀ k, x (ix3 b r k) = ((f k.val : ℝ) : EReal)) (hw : ∀ k, w k = ((q k.val : ℝ) : EReal))
    (hv : ∀ k, v k = ((c k.val : ℝ) : EReal)) (K : ℕ → Prop) [DecidablePred K] (hK : ∀ k : Fin 4097, (∃ j, p b r j = k) ↔ K k.val) :
    ∑ k : Fin 4097, Host.scatter scatter_S16x128x4097_S16x128x8x3_S16x128x8_n_012_012_3 (fun _ v => v) x0 idx upd (ix3 b r k) * w k * v k
      = ((∑ k : Fin 4097, if K k.val then f k.val * q k.val * c k.val else 0 : ℝ) : EReal) := by
  classical
  rw [← coe_sum]
  refine Finset.sum_congr rfl fun k _ => ?_
  rw [scatter_entry x0 x idx upd p h0 h1 h2 hu, hw, hv]
  by_cases h : K k.val
  · rw [if_pos ((hK k).2 h), if_pos h, hx, EReal.coe_mul, EReal.coe_mul]
  · rw [if_neg (fun e => h ((hK k).1 e)), if_neg h, hz, zero_mul, zero_mul, EReal.coe_zero]

variable {V : Contents} (hV : ClearAt V)
include hV

/-- **The reference's result.** -/
theorem ref_value (b : Fin 16) (r : Fin 128) (n : Fin 8192) :
    (Host.divf (res_main_v115 V) (broadcastInDim S16x128x8192 ![] Facts₀.bcast_S_S16x128x8192 (constant (F := Ideal) S_ .f32 0x46000000#32)) : S16x128x8192.Idx → EReal)
        (ix3 b r n)
      = ((rebuilt (rowOf V b r) (fun k => ranked (mags (rowOf V b r)) 7 ≤ pow2 (rowOf V b r) k) n.val * (1 / 8192) : ℝ) : EReal) := by
  pointwise [res_main_v115]
  have hK : ∀ k : Fin 4097, (∃ j, picked V b r j = k) ↔ ranked (mags (rowOf V b r)) 7 ≤ pow2 (rowOf V b r) k.val :=
    fun k => among_eight (mags (rowOf V b r)) (hV.strict b r 7 (by omega)) k
  have hc : ∀ k : Fin 4097, Ideal.cos (res_main_v95 V (ix2 n k)) = ((Real.cos (ang 8192 (n.val * k.val)) : ℝ) : EReal) := fun k => by
    pointwise [res_main_v95]
    rw [angle_mod _ _ (time_freq_lt n k), cos_angle_mod]
  have hs : ∀ k : Fin 4097, Ideal.sin (res_main_v95 V (ix2 n k)) = ((-Real.sin (ang 8192 (n.val * k.val)) : ℝ) : EReal) := fun k => by
    pointwise [res_main_v95]
    rw [angle_mod _ _ (time_freq_lt n k), sin_angle_mod]
  have hz : ∀ b r k, (broadcastInDim S16x128x4097 ![] Facts₀.bcast_S_S16x128x4097 (constant (F := Ideal) S_ .f32 0#32) : S16x128x4097.Idx → EReal) (ix3 b r k) = 0 := fun b r k => by
    pointwise
  refine Eq.trans (congrArg₂ Ideal.div (congrArg₂ (HSub.hSub : EReal → EReal → EReal)
    (sum_scattered (w := fun k => id (res_main_v104 V) (ix1 k)) (v := fun k => Ideal.cos (res_main_v95 V (ix2 n k)))
      (p := picked V) (f := specR (rowOf V b r)) (q := wt) (c := fun k => Real.cos (ang 8192 (n.val * k)))
      (x := res_main_v25 V) hz ?_ ?_ ?_ ?_ (ref_re hV b r) (ref_weight V) hc
      (fun k => ranked (mags (rowOf V b r)) 7 ≤ pow2 (rowOf V b r) k) hK)
    (sum_scattered (w := fun k => id (res_main_v104 V) (ix1 k)) (v := fun k => Ideal.sin (res_main_v95 V (ix2 n k)))
      (p := picked V) (f := specI (rowOf V b r)) (q := wt) (c := fun k => -Real.sin (ang 8192 (n.val * k)))
      (x := res_main_v27 V) hz ?_ ?_ ?_ ?_ (ref_im hV b r) (ref_weight V) hs
      (fun k => ranked (mags (rowOf V b r)) 7 ≤ pow2 (rowOf V b r) k) hK)) word_8192) ?_
  case refine_1 | refine_5 =>
    intro b r j
    refine (words_apply _ _ _ b r j).1.trans ?_
    pointwise [res_main_v33]
    exact wrap_small _ (by omega) _
  case refine_2 | refine_6 =>
    intro b r j
    refine (words_apply _ _ _ b r j).2.1.trans ?_
    pointwise [res_main_v35]
    exact wrap_small _ (by omega) _
  case refine_3 | refine_7 =>
    intro b r j
    refine (words_apply _ _ _ b r j).2.2.trans ?_
    pointwise
    rw [ref_indices hV]
    exact wrap_small _ (picked V b r j).isLt _
  case refine_4 => exact updates_apply _ _ (picked V) (ref_call0 hV)
  case refine_8 => exact updates_apply _ _ (picked V) (ref_call1 hV)
  case refine_9 =>
    rw [← EReal.coe_sub, div_real _ _ (by norm_num), ← Finset.sum_sub_distrib, rebuilt, div_eq_mul_one_div]
    congr 2
    refine Finset.sum_congr rfl fun k _ => ?_
    split
    · ring
    · ring

end Cert.Proof
-- ==== Proof.Infinite.lean ====
/- A row with an infinite sample: its squared magnitudes are all infinite, or all zero where its factor is zero. -/
module

public import proofs.«01_k».proof.Proof.Dft
public import Mathlib.Data.EReal.Operations
public import Mathlib.Data.EReal.Inv

@[expose] public section

noncomputable section

namespace Cert.Proof

/-- A value that is no real. -/
def Infinite (x : EReal) : Prop := x = ⊤ ∨ x = ⊥

/-- A value is a real or infinite. -/
theorem real_or_infinite (x : EReal) : x = ((x.toReal : ℝ) : EReal) ∨ Infinite x := by
  by_cases h1 : x = ⊤
  · exact .inr (.inl h1)
  · by_cases h2 : x = ⊥
    · exact .inr (.inr h2)
    · exact .inl (EReal.coe_toReal h1 h2).symm

/-- An infinite summand makes a sum infinite. -/
theorem Infinite.add {x : EReal} (h : Infinite x) (y : EReal) : Infinite (x + y) := by
  rcases h with rfl | rfl
  · by_cases hy : y = ⊥
    · exact .inr (by rw [hy, EReal.add_bot])
    · exact .inl (EReal.top_add_of_ne_bot hy)
  · exact .inr (EReal.bot_add y)

/-- The same of a finite sum. -/
theorem Infinite.sum {ι : Type} [Fintype ι] {f : ι → EReal} (i : ι) (h : Infinite (f i)) : Infinite (∑ j, f j) := by
  classical
  rw [← Finset.add_sum_erase _ f (Finset.mem_univ i)]
  exact h.add _

/-- An infinite value times a real other than zero is infinite. -/
theorem Infinite.mul {x : EReal} (h : Infinite x) {c : ℝ} (hc : c ≠ 0) : Infinite (x * (c : EReal)) := by
  rcases h with rfl | rfl <;> rcases lt_or_gt_of_ne hc with hc | hc
  · exact .inr (EReal.top_mul_coe_of_neg hc)
  · exact .inl (EReal.top_mul_coe_of_pos hc)
  · exact .inl (EReal.bot_mul_coe_of_neg hc)
  · exact .inr (EReal.bot_mul_coe_of_pos hc)

/-- Its square is the upper infinity. -/
theorem Infinite.square {x : EReal} (h : Infinite x) : x * x = ⊤ := by
  rcases h with rfl | rfl
  · exact EReal.top_mul_top
  · exact EReal.bot_mul_bot

/-- No square is the lower infinity. -/
theorem square_ne_bot (x : EReal) : x * x ≠ ⊥ := by
  rcases real_or_infinite x with h | h
  · rw [h, ← EReal.coe_mul]
    exact EReal.coe_ne_bot _
  · rw [h.square]
    exact top_ne_bot

/-- The cosine and the sine of an angle are not both zero. -/
theorem cos_or_sin (t : ℝ) : Real.cos t ≠ 0 ∨ -Real.sin t ≠ 0 := by
  by_contra h
  push Not at h
  have := Real.cos_sq_add_sin_sq t
  rw [h.1, neg_eq_zero.1 h.2] at this
  norm_num at this

/-- The squared magnitude, at a frequency whose waves are `c` and `s`, of a row with an infinite sample and the factor
    `g`: it does not depend on the frequency. -/
theorem infinite_power {N : ℕ} {x c s : Fin N → EReal} {n : Fin N} (hx : Infinite (x n)) {g a b : ℝ}
    (hc : c n = (a : EReal)) (hs : s n = (b : EReal)) (hab : a ≠ 0 ∨ b ≠ 0) :
    ((g : EReal) * ∑ n, x n * c n) * ((g : EReal) * ∑ n, x n * c n) + ((g : EReal) * ∑ n, x n * s n) * ((g : EReal) * ∑ n, x n * s n)
      = if g = 0 then 0 else ⊤ := by
  by_cases hg : g = 0
  · rw [if_pos hg, hg, EReal.coe_zero, zero_mul, zero_mul, zero_mul, zero_mul, add_zero]
  · rw [if_neg hg]
    have big : ∀ {w : Fin N → EReal} {d : ℝ}, w n = (d : EReal) → d ≠ 0 →
        ((g : EReal) * ∑ n, x n * w n) * ((g : EReal) * ∑ n, x n * w n) = ⊤ := fun {w d} hw hd => by
      have h : Infinite (∑ n, x n * w n) := Infinite.sum n (by rw [hw]; exact hx.mul hd)
      rw [mul_comm (g : EReal)]
      exact (h.mul hg).square
    rcases hab with h | h
    · rw [big hc h, EReal.top_add_of_ne_bot (square_ne_bot _)]
    · rw [big hs h, EReal.add_top_of_ne_bot (square_ne_bot _)]

end Cert.Proof
-- ==== Proof.Pre.lean ====
/- What the precondition says: the nine greatest squared magnitudes of every row are distinct. It follows that the samples
   are finite: a row with an infinite one has equal squared magnitudes. -/
module

public import proofs.«01_k».proof.Proof.Gen.Pre_clear_peaks
public import Idealize.ShloMosaic.Lib.Pointwise
public import proofs.«01_k».proof.Proof.Rows
public import proofs.«01_k».proof.Proof.Infinite

@[expose] public section

noncomputable section

namespace Cert.Proof

open Cert.Pre_clear_peaks Cert.Pre_clear_peaks.Gen Idealize.ShloMosaic

/-- The second half of the precondition, over any tables of waves: the nine first of the sums of squares `P`, in
    descending order, descend strictly. -/
theorem pre_tail (x : FVec Ideal S16x128x8192 .f32) (C S : FVec Ideal S8192x4097 .f32) (T : FVec Ideal S16x128 .f32)
    (h : fn_part1 x C S T = fun _ => 1#1) :
    ∃ P : S16x128x4097.Idx → EReal,
      (∀ b r k, P (ix3 b r k)
        = ((1 + T (ix2 b r)) * ∑ n : Fin 8192, x (ix3 b r n) * C (ix2 n k)) * ((1 + T (ix2 b r)) * ∑ n : Fin 8192, x (ix3 b r n) * C (ix2 n k))
          + ((1 + T (ix2 b r)) * ∑ n : Fin 8192, x (ix3 b r n) * S (ix2 n k)) * ((1 + T (ix2 b r)) * ∑ n : Fin 8192, x (ix3 b r n) * S (ix2 n k)))
      ∧ ∀ (b : Fin 16) (r : Fin 128) (j : Fin 8),
        (Host.topK S16x128x9 2 (Ideal.cmpTotal .gt) P Facts.sliceFits_S16x128x4097_S16x128x9).1 (ix3 b r (⟨1 + j.val, by omega⟩ : Fin 9))
          < (Host.topK S16x128x9 2 (Ideal.cmpTotal .gt) P Facts.sliceFits_S16x128x4097_S16x128x9).1 (ix3 b r (⟨j.val, by omega⟩ : Fin 9)) := by
  have h0 := congrFun h ix0
  pointwise [fn_part1] at h0
  have hbit : ∀ p : Prop, ∀ _ : Decidable p, BitVec.ofBool (decide p) = 1#1 → p := fun p _ hp => by
    by_contra hn
    rw [decide_eq_false hn] at hp
    exact absurd hp (by decide)
  refine ⟨_, fun b r k => ?_, fun b r j => hbit _ _ (fold_andi_one _ h0 (b, r, j))⟩
  pointwise

/-- The precondition over tables holding the waves and the factors' hyperbolic tangents. -/
theorem clear_of_tail (X : FVec Ideal S16x128x8192 .f32) (E : FVec Ideal S16x256 .f32) (W : FVec Ideal S128x256 .f32) (B : FVec Ideal S128 .f32)
    (C S : FVec Ideal S8192x4097 .f32) (T : FVec Ideal S16x128 .f32) (h : fn_part1 X C S T = fun _ => 1#1)
    (hC : ∀ n k, (C : S8192x4097.Idx → EReal) (ix2 n k) = ((Real.cos (ang 8192 (n.val * k.val)) : ℝ) : EReal))
    (hS : ∀ n k, (S : S8192x4097.Idx → EReal) (ix2 n k) = ((-Real.sin (ang 8192 (n.val * k.val)) : ℝ) : EReal))
    (hT : ∀ b r, 1 + (T : S16x128.Idx → EReal) (ix2 b r) = ((gain E W B b r : ℝ) : EReal)) : Clear X E W B := by
  obtain ⟨P, hP, ht⟩ := pre_tail _ _ _ _ h
  have real : ∀ b r (n : Fin 8192), X (ix3 b r n) = ((sample X b r n.val : ℝ) : EReal) := fun b r n => by
    rw [sample, dif_pos n.isLt]
    refine (real_or_infinite _).resolve_right fun hinf => ?_
    have hsame : ∀ k, P (ix3 b r k) = if gain E W B b r = 0 then 0 else ⊤ := fun k => by
      rw [hP, hT]
      exact infinite_power (x := fun n => X (ix3 b r n)) (c := fun n => C (ix2 n k)) (s := fun n => S (ix2 n k)) hinf (hC n k) (hS n k)
        (cos_or_sin (ang 8192 (n.val * k.val)))
    have hord : ∀ k k', P (ix3 b r k') < P (ix3 b r k) ↔ (0 : ℝ) < 0 := fun k k' => by
      rw [hsame, hsame, lt_self_iff_false, lt_self_iff_false]
    have := ht b r ⟨0, by omega⟩
    rw [(topK_apply (by omega) P (fun _ => 0) b r hord _ _).1, (topK_apply (by omega) P (fun _ => 0) b r hord _ _).1, hsame, hsame] at this
    exact lt_irrefl _ this
  have hPr : ∀ b r k, P (ix3 b r k) = ((mags (row X E W B b r) k : ℝ) : EReal) := fun b r k => by
    rw [hP, hT, sum_wave (real b r) (c := fun n => Real.cos (ang 8192 (n * k.val))) (fun n => hC n k),
      sum_wave (real b r) (c := fun n => -Real.sin (ang 8192 (n * k.val))) (fun n => hS n k),
      ← EReal.coe_mul, ← EReal.coe_mul, ← EReal.coe_mul, ← EReal.coe_mul, ← EReal.coe_add]
    unfold mags pow2 row
    rw [specR_scaled, specI_scaled, neg_mul_neg]
  refine ⟨real, fun b r j hj => ?_⟩
  have hord : ∀ k k', P (ix3 b r k') < P (ix3 b r k) ↔ mags (row X E W B b r) k' < mags (row X E W B b r) k := fun k k' => by
    rw [hPr, hPr, EReal.coe_lt_coe_iff]
  have := ht b r ⟨j, hj⟩
  rw [(topK_apply (by omega) P (mags (row X E W B b r)) b r hord _ _).1, (topK_apply (by omega) P (mags (row X E W B b r)) b r hord _ _).1,
    hPr, hPr, EReal.coe_lt_coe_iff] at this
  rw [ranked_of (show j < 4097 by omega), ranked_of (show j + 1 < 4097 by omega)]
  simpa only [Nat.add_comm 1 j] using this

/-- **The precondition, read.** -/
theorem clear_of_pre (X : FVec Ideal S16x128x8192 .f32) (E : FVec Ideal S16x256 .f32) (W : FVec Ideal S128x256 .f32) (B : FVec Ideal S128 .f32)
    (h : fn X E W B = fun _ => 1#1) : Clear X E W B := by
  unfold fn at h
  refine clear_of_tail X E W B _ _ _ h (fun n k => ?_) (fun n k => ?_) (fun b r => ?_)
  · pointwise
    rw [angle_mod _ _ (lt_of_le_of_lt (Nat.mul_le_mul (Nat.le_of_lt n.isLt) (Nat.le_of_lt k.isLt)) (by norm_num)), cos_angle_mod]
  · pointwise
    rw [angle_mod _ _ (lt_of_le_of_lt (Nat.mul_le_mul (Nat.le_of_lt n.isLt) (Nat.le_of_lt k.isLt)) (by norm_num)), sin_angle_mod]
  · rw [← gain_eq, score]
    pointwise

end Cert.Proof
-- ==== Proof.Equal.lean ====
/- The two programs from memories agreeing on the arguments: each ends with the rows rebuilt from their eight greatest
   frequencies. -/
module

public import proofs.«01_k».proof.Defs
public import proofs.«01_k».proof.Proof.Gen.Kernel
public import proofs.«01_k».proof.Proof.Gen.Kernel.Frame
public import proofs.«01_k».proof.Proof.KernelValue
public import proofs.«01_k».proof.Proof.RefValue
public import proofs.«01_k».proof.Proof.Pre

@[expose] public section

noncomputable section

namespace Cert.Proof

open Idealize.ShloMosaic Idealize.SL.Sem

/-- The kernel's and the reference's result arrays are equal, where the arguments agree and satisfy the precondition. -/
theorem results_equal (m : (ℓ : Loc Cert.KernelIdeal.nD Cert.KernelIdeal.τ Cert.KernelIdeal.sig) → Buf (Elt Ideal) ℓ)
    (c : Dev Cert.KernelIdeal.nD) (V : Contents)
    (hC : Clear (m (c, Proc.tc.devRef Cert.KernelIdeal.main_arg0)) (m (c, Proc.tc.devRef Cert.KernelIdeal.main_arg1))
      (m (c, Proc.tc.devRef Cert.KernelIdeal.main_arg2)) (m (c, Proc.tc.devRef Cert.KernelIdeal.main_arg3)))
    (h0 : V (Proc.devRef .tc Cert.ReferenceIdeal.main_arg0) = m (c, Proc.tc.devRef Cert.KernelIdeal.main_arg0))
    (h1 : V (Proc.devRef .tc Cert.ReferenceIdeal.main_arg1) = m (c, Proc.tc.devRef Cert.KernelIdeal.main_arg1))
    (h2 : V (Proc.devRef .tc Cert.ReferenceIdeal.main_arg2) = m (c, Proc.tc.devRef Cert.KernelIdeal.main_arg2))
    (h3 : V (Proc.devRef .tc Cert.ReferenceIdeal.main_arg3) = m (c, Proc.tc.devRef Cert.KernelIdeal.main_arg3)) :
    (Host.divf (Cert.ReferenceIdeal.Value.res_main_v115 V) (broadcastInDim Cert.ReferenceIdeal.S16x128x8192 ![]
        Cert.ReferenceIdeal.Facts₀.bcast_S_S16x128x8192 (constant (F := Ideal) Cert.ReferenceIdeal.S_ .f32 0x46000000#32))
        : (⟨3, ![16, 128, 8192]⟩ : Shape).Idx → EReal)
      = (Cert.KernelIdeal.Gen.dats m 0 c).arrAt 14 Cert.KernelIdeal.cfg0.N := by
  have hV : ClearAt V := by
    unfold ClearAt
    rw [h0, h1, h2, h3]
    exact hC
  have hrow : rowOf V = row (m (c, Proc.tc.devRef Cert.KernelIdeal.main_arg0)) (m (c, Proc.tc.devRef Cert.KernelIdeal.main_arg1))
      (m (c, Proc.tc.devRef Cert.KernelIdeal.main_arg2)) (m (c, Proc.tc.devRef Cert.KernelIdeal.main_arg3)) := by
    funext b r
    unfold rowOf
    rw [h0, h1, h2, h3]
  funext i
  obtain ⟨b, r, n, rfl⟩ : ∃ (b : Fin 16) (r : Fin 128) (n : Fin 8192), i = ix3 b r n := by
    refine ⟨i 0, i 1, i 2, ?_⟩
    funext a
    match a with
    | ⟨0, _⟩ => rfl
    | ⟨1, _⟩ => rfl
    | ⟨2, _⟩ => rfl
  exact (ref_value hV b r n).trans (kernel_value m c hC (rowOf V) hrow b r n).symm

/-- **The kernel and the reference return the same array**, over the extended reals, under the precondition. -/
theorem algebraic : Cert.algebraic_KernelIdeal_ReferenceIdeal_pre_clear_peaks
    (hKernelIdeal := Cert.KernelIdeal.Gen.facts) (hReferenceIdeal := Cert.ReferenceIdeal.Gen.facts)
    (hPre_clear_peaks := Cert.Pre_clear_peaks.Gen.facts) := by
  intro m g m' g' hpre hagree
  refine ⟨fun c => (Cert.KernelIdeal.Gen.dats m 0 c).arrAt 14 Cert.KernelIdeal.cfg0.N,
    Cert.KernelIdeal.Value.run_blocks (F := Ideal) m g, ?_⟩
  refine (θ_run _ _ _).mono (fun _ h c => ⟨(h c).1.trans ?_, (h c).2⟩) (Cert.ReferenceIdeal.Value.run (F := Ideal) m' g')
  exact results_equal m c (StableHlo.launchContents m' c) (clear_of_pre _ _ _ _ (hpre c))
    (hagree c).1 (hagree c).2.1 (hagree c).2.2.1 (hagree c).2.2.2

/-- The reference runs, leaves its arguments and ends with no semaphore raised: it declares none. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_clear_peaks
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate: the three programs' frames, the idealization, and the equality of the results. -/
theorem claim : Cert.Claim := ⟨Cert.Kernel.Gen.facts, Cert.KernelIdeal.Gen.facts, Cert.ReferenceIdeal.Gen.facts, Cert.Pre_clear_peaks.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
